-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1024 : Shape := ⟨1, ![1024]⟩
abbrev S1024x128 : Shape := ⟨2, ![1024, 128]⟩
abbrev S1024x128x8x8 : Shape := ⟨4, ![1024, 128, 8, 8]⟩
abbrev S64x128 : Shape := ⟨2, ![64, 128]⟩
abbrev S64x1024 : Shape := ⟨2, ![64, 1024]⟩
abbrev S128 : Shape := ⟨1, ![128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x128x8x8 : S_.BroadcastsInDim S1024x128x8x8 (![] : Fin 0 → Fin S1024x128x8x8.rank)
  reducesTo_S1024x128x8x8_S_d0_1_2_3 : S1024x128x8x8.ReducesTo [0, 1, 2, 3] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_v5 : IVec S_ 1) (main_v11 : IVec S_ 1) (main_v17 : IVec S_ 1) (main_v21 : IVec S_ 1) (main_v25 : IVec S_ 1) (main_v29 : IVec S_ 1) (main_v30 : FVec F S64x128 .f32) (main_v31 : FVec F S64x128 .f32) : IVec S_ 1 :=
  let main_v32 : IVec S64x128 1 := cmpf .olt main_v30 main_v31
  let main_c_14 : IVec S_ 1 := constantI S_ 1 1#1
  let main_v33 : IVec S_ 1 := (fun x v => Host.reduce IntOp.andi x v reducesTo_S64x128_S_d0_1 h_S_) main_v32 main_c_14
  let main_v34 : IVec S_ 1 := andi main_v5 main_v11
  let main_v35 : IVec S_ 1 := andi main_v34 main_v17
  let main_v36 : IVec S_ 1 := andi main_v35 main_v21
  let main_v37 : IVec S_ 1 := andi main_v36 main_v25
  let main_v38 : IVec S_ 1 := andi main_v37 main_v29
  let main_v39 : IVec S_ 1 := andi main_v38 main_v33
  main_v39

def fn_part1 {F : FTy → Type} [FloatOps F] (main_arg2 : FVec F S1024x128x8x8 .f32) (main_arg3 : FVec F S64x128 .f32) (main_arg4 : FVec F S64x128 .f32) (main_arg5 : FVec F S64x128 .f32) (main_v5 : IVec S_ 1) (main_v11 : IVec S_ 1) (main_v13 : IVec S64x1024 1) (main_v15 : IVec S64x1024 1) : IVec S_ 1 :=
  let main_v16 : IVec S64x1024 1 := andi main_v13 main_v15
  let main_c_7 : IVec S_ 1 := constantI S_ 1 1#1
  let main_v17 : IVec S_ 1 := (fun x v => Host.reduce IntOp.andi x v reducesTo_S64x1024_S_d0_1 h_S_) main_v16 main_c_7
  let main_v18 : FVec F S1024x128x8x8 .f32 := Host.absf main_arg2
  let main_cst : FVec F S_ .f32 := constant S_ .f32 0x7F800000#32
  let main_v19 : FVec F S1024x128x8x8 .f32 := broadcastInDim S1024x128x8x8 ![] bcast_S_S1024x128x8x8 main_cst
  let main_v20 : IVec S1024x128x8x8 1 := cmpf .olt main_v18 main_v19
  let main_c_8 : IVec S_ 1 := constantI S_ 1 1#1
  let main_v21 : IVec S_ 1 := (fun x v => Host.reduce IntOp.andi x v reducesTo_S1024x128x8x8_S_d0_1_2_3 h_S_) main_v20 main_c_8
  let main_v22 : FVec F S64x128 .f32 := Host.absf main_arg3
  let main_cst_9 : FVec F S_ .f32 := constant S_ .f32 0x7F800000#32
  let main_v23 : FVec F S64x128 .f32 := broadcastInDim S64x128 ![] bcast_S_S64x128 main_cst_9
  let main_v24 : IVec S64x128 1 := cmpf .olt main_v22 main_v23
  let main_c_10 : IVec S_ 1 := constantI S_ 1 1#1
  let main_v25 : IVec S_ 1 := (fun x v => Host.reduce IntOp.andi x v reducesTo_S64x128_S_d0_1 h_S_) main_v24 main_c_10
  let main_v26 : FVec F S64x128 .f32 := Host.absf main_arg4
  let main_cst_11 : FVec F S_ .f32 := constant S_ .f32 0x7F800000#32
  let main_v27 : FVec F S64x128 .f32 := broadcastInDim S64x128 ![] bcast_S_S64x128 main_cst_11
  let main_v28 : IVec S64x128 1 := cmpf .olt main_v26 main_v27
  let main_c_12 : IVec S_ 1 := constantI S_ 1 1#1
  let main_v29 : IVec S_ 1 := (fun x v => Host.reduce IntOp.andi x v reducesTo_S64x128_S_d0_1 h_S_) main_v28 main_c_12
  let main_v30 : FVec F S64x128 .f32 := Host.absf main_arg5
  let main_cst_13 : FVec F S_ .f32 := constant S_ .f32 0x7F800000#32
  let main_v31 : FVec F S64x128 .f32 := broadcastInDim S64x128 ![] bcast_S_S64x128 main_cst_13
  fn_part2 (F := F) main_v5 main_v11 main_v17 main_v21 main_v25 main_v29 main_v30 main_v31

def fn {F : FTy → Type} [FloatOps F] (main_arg0 : IVec S1024 32) (main_arg1 : FVec F S1024x128 .f32) (main_arg2 : FVec F S1024x128x8x8 .f32) (main_arg3 : FVec F S64x128 .f32) (main_arg4 : FVec F S64x128 .f32) (main_arg5 : FVec F S64x128 .f32) (main_arg6 : IVec S64x1024 32) (main_arg7 : IVec S64x1024 32) (main_arg8 : FVec F S128 .f32) (main_arg9 : FVec F S128 .f32) (main_arg10 : FVec F S128 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 3#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S64x1024 32 := broadcastInDim S64x1024 ![] bcast_S_S64x1024 main_c_2
  let main_v7 : IVec S64x1024 1 := cmpi .sge main_arg6 main_v6
  let main_c_3 : IVec S_ 32 := constantI S_ 32 224#32
  let main_v8 : IVec S64x1024 32 := broadcastInDim S64x1024 ![] bcast_S_S64x1024 main_c_3
  let main_v9 : IVec S64x1024 1 := cmpi .slt main_arg6 main_v8
  let main_v10 : IVec S64x1024 1 := andi main_v7 main_v9
  let main_c_4 : IVec S_ 1 := constantI S_ 1 1#1
  let main_v11 : IVec S_ 1 := (fun x v => Host.reduce IntOp.andi x v reducesTo_S64x1024_S_d0_1 h_S_) main_v10 main_c_4
  let main_c_5 : IVec S_ 32 := constantI S_ 32 0#32
  let main_v12 : IVec S64x1024 32 := broadcastInDim S64x1024 ![] bcast_S_S64x1024 main_c_5
  let main_v13 : IVec S64x1024 1 := cmpi .sge main_arg7 main_v12
  let main_c_6 : IVec S_ 32 := constantI S_ 32 224#32
  let main_v14 : IVec S64x1024 32 := broadcastInDim S64x1024 ![] bcast_S_S64x1024 main_c_6
  let main_v15 : IVec S64x1024 1 := cmpi .slt main_arg7 main_v14
  fn_part1 (F := F) main_arg2 main_arg3 main_arg4 main_arg5 main_v5 main_v11 main_v13 main_v15
-- ==== Kernel.lean ====
abbrev S1024 : Shape := ⟨1, ![1024]⟩
abbrev S1024x128 : Shape := ⟨2, ![1024, 128]⟩
abbrev S1024x128x8x8 : Shape := ⟨4, ![1024, 128, 8, 8]⟩
abbrev S64x128 : Shape := ⟨2, ![64, 128]⟩
abbrev S64x1024 : Shape := ⟨2, ![64, 1024]⟩
abbrev S128 : Shape := ⟨1, ![128]⟩
abbrev S1024x8x8x128 : Shape := ⟨4, ![1024, 8, 8, 128]⟩
abbrev S1024x64x128 : Shape := ⟨3, ![1024, 64, 128]⟩
abbrev S8x1x128 : Shape := ⟨3, ![8, 1, 128]⟩
abbrev S128x64 : Shape := ⟨2, ![128, 64]⟩
abbrev S128x192 : Shape := ⟨2, ![128, 192]⟩
abbrev S1x128 : Shape := ⟨2, ![1, 128]⟩
abbrev S3x128 : Shape := ⟨2, ![3, 128]⟩
abbrev S1024x3 : Shape := ⟨2, ![1024, 3]⟩
abbrev S1024x1 : Shape := ⟨2, ![1024, 1]⟩
abbrev S1x1 : Shape := ⟨2, ![1, 1]⟩
abbrev S128x64x128 : Shape := ⟨3, ![128, 64, 128]⟩
abbrev S1x1x128 : Shape := ⟨3, ![1, 1, 128]⟩
abbrev S128x128 : Shape := ⟨2, ![128, 128]⟩
abbrev S128x3 : Shape := ⟨2, ![128, 3]⟩
abbrev S128x1 : Shape := ⟨2, ![128, 1]⟩
abbrev S1024x64 : Shape := ⟨2, ![1024, 64]⟩
abbrev S1x64 : Shape := ⟨2, ![1, 64]⟩
abbrev S128x64x64 : Shape := ⟨3, ![128, 64, 64]⟩
abbrev S128x1x64 : Shape := ⟨3, ![128, 1, 64]⟩
abbrev S128x128x64 : Shape := ⟨3, ![128, 128, 64]⟩
abbrev S192 : Shape := ⟨1, ![192]⟩
abbrev S1x192 : Shape := ⟨2, ![1, 192]⟩
abbrev S1x128x64 : Shape := ⟨3, ![1, 128, 64]⟩
abbrev S64 : Shape := ⟨1, ![64]⟩
abbrev S1x1x64 : Shape := ⟨3, ![1, 1, 64]⟩
abbrev S1 : Shape := ⟨1, ![1]⟩
abbrev S1x1x1 : Shape := ⟨3, ![1, 1, 1]⟩
abbrev S1x1024x64 : Shape := ⟨3, ![1, 1024, 64]⟩
abbrev S1024x3x1 : Shape := ⟨3, ![1024, 3, 1]⟩
abbrev S_ : Shape := ⟨0, ![]⟩

abbrev nBuf : Space → Nat
  | .hbm => 28
  | .vmem => 20
  | .smem => 0
  | _ => 0

abbrev bufTy : (tb : Table) → Fin (tcTables nBuf tb) → BufTy
  | .hbm, ⟨0, _⟩ => ⟨S1024, .i32⟩
  | .hbm, ⟨1, _⟩ => ⟨S1024x128, .f32⟩
  | .hbm, ⟨2, _⟩ => ⟨S1024x128x8x8, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x1024, .i32⟩
  | .hbm, ⟨7, _⟩ => ⟨S64x1024, .i32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1024x8x8x128, .f32⟩
  | .hbm, ⟨12, _⟩ => ⟨S1024x64x128, .f32⟩
  | .hbm, ⟨13, _⟩ => ⟨S8x1x128, .i32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S128x192, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S3x128, .f32⟩
  | .hbm, ⟨22, _⟩ => ⟨S1024x3, .f32⟩
  | .hbm, ⟨23, _⟩ => ⟨S1024x1, .i32⟩
  | .hbm, ⟨24, _⟩ => ⟨S1x1, .f32⟩
  | .hbm, ⟨25, _⟩ => ⟨S1024x3x1, .f32⟩
  | .hbm, ⟨26, _⟩ => ⟨S1024, .i32⟩
  | .hbm, ⟨27, _⟩ => ⟨S_, .f32⟩
  | .local _ .vmem, ⟨0, _⟩ => ⟨S128x64x128, .f32⟩
  | .local _ .vmem, ⟨1, _⟩ => ⟨S128x64x128, .f32⟩
  | .local _ .vmem, ⟨2, _⟩ => ⟨S64x128, .i32⟩
  | .local _ .vmem, ⟨3, _⟩ => ⟨S64x128, .i32⟩
  | .local _ .vmem, ⟨4, _⟩ => ⟨S64x128, .i32⟩
  | .local _ .vmem, ⟨5, _⟩ => ⟨S64x128, .i32⟩
  | .local _ .vmem, ⟨6, _⟩ => ⟨S1x1x128, .i32⟩
  | .local _ .vmem, ⟨7, _⟩ => ⟨S1x1x128, .i32⟩
  | .local _ .vmem, ⟨8, _⟩ => ⟨S128x128, .f32⟩
  | .local _ .vmem, ⟨9, _⟩ => ⟨S128x128, .f32⟩
  | .local _ .vmem, ⟨10, _⟩ => ⟨S128x192, .f32⟩
  | .local _ .vmem, ⟨11, _⟩ => ⟨S3x128, .f32⟩
  | .local _ .vmem, ⟨12, _⟩ => ⟨S128x3, .f32⟩
  | .local _ .vmem, ⟨13, _⟩ => ⟨S128x3, .f32⟩
  | .local _ .vmem, ⟨14, _⟩ => ⟨S128x1, .i32⟩
  | .local _ .vmem, ⟨15, _⟩ => ⟨S128x1, .i32⟩
  | .local _ .vmem, ⟨16, _⟩ => ⟨S1x1, .f32⟩
  | .local _ .vmem, ⟨17, _⟩ => ⟨S1024x64, .f32⟩
  | .local _ .vmem, ⟨18, _⟩ => ⟨S1x64, .f32⟩
  | .local _ .vmem, ⟨19, _⟩ => ⟨S1x64, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c128_i32 : BitVec 32 := 128#32
  let v128 : BitVec 32 := Scalar.muli arg0 c128_i32
  let v129 : Index := Scalar.indexCast v128
  let c0_44 : Index := 0#32
  ![v129.toNat, 0]
def k0_cond4 (i : grid0.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1024 : Shape := ⟨1, ![1024]⟩
abbrev S1024x128 : Shape := ⟨2, ![1024, 128]⟩
abbrev S1024x128x8x8 : Shape := ⟨4, ![1024, 128, 8, 8]⟩
abbrev S64x128 : Shape := ⟨2, ![64, 128]⟩
abbrev S64x1024 : Shape := ⟨2, ![64, 1024]⟩
abbrev S128 : Shape := ⟨1, ![128]⟩
abbrev S1x128 : Shape := ⟨2, ![1, 128]⟩
abbrev S1024x1x128 : Shape := ⟨3, ![1024, 1, 128]⟩
abbrev S1x1x128 : Shape := ⟨3, ![1, 1, 128]⟩
abbrev S_ : Shape := ⟨0, ![]⟩
abbrev S1024x1 : Shape := ⟨2, ![1024, 1]⟩
abbrev S1024x1x1 : Shape := ⟨3, ![1024, 1, 1]⟩
abbrev S1024x3x1 : Shape := ⟨3, ![1024, 3, 1]⟩
abbrev S1024x64 : Shape := ⟨2, ![1024, 64]⟩
abbrev S1024x8x8x128 : Shape := ⟨4, ![1024, 8, 8, 128]⟩
abbrev S1024x64x1 : Shape := ⟨3, ![1024, 64, 1]⟩
abbrev S1024x64x3 : Shape := ⟨3, ![1024, 64, 3]⟩
abbrev S1024x64x128 : Shape := ⟨3, ![1024, 64, 128]⟩
abbrev S1x64x128 : Shape := ⟨3, ![1, 64, 128]⟩
abbrev S3x64x128 : Shape := ⟨3, ![3, 64, 128]⟩
abbrev S1024x1x64x128 : Shape := ⟨4, ![1024, 1, 64, 128]⟩
abbrev S1x3x64x128 : Shape := ⟨4, ![1, 3, 64, 128]⟩
abbrev S1024x3x64x128 : Shape := ⟨4, ![1024, 3, 64, 128]⟩
abbrev S1024x3x64 : Shape := ⟨3, ![1024, 3, 64]⟩
abbrev S1024x1x64 : Shape := ⟨3, ![1024, 1, 64]⟩
abbrev S1024x1x64x1 : Shape := ⟨4, ![1024, 1, 64, 1]⟩
abbrev S1 : Shape := ⟨1, ![1]⟩
abbrev S1x1x1x1 : Shape := ⟨4, ![1, 1, 1, 1]⟩
abbrev S65536 : Shape := ⟨1, ![65536]⟩

abbrev nBuf : Space → Nat
  | .hbm => 173
  | .vmem => 0
  | .smem => 0
  | _ => 0

abbrev hbmTy0_0 (i : Nat) : BufTy := match i % 128 with
  | 0 => ⟨S1024, .i32⟩
  | 1 => ⟨S1024x128, .f32⟩
  | 2 => ⟨S1024x128x8x8, .f32⟩
  | 3 => ⟨S64x128, .f32⟩
  | 4 => ⟨S64x128, .f32⟩
  | 5 => ⟨S64x128, .f32⟩
  | 6 => ⟨S64x1024, .i32⟩
  | 7 => ⟨S64x1024, .i32⟩
  | 8 => ⟨S128, .f32⟩
  | 9 => ⟨S128, .f32⟩
  | 10 => ⟨S128, .f32⟩
  | 11 => ⟨S1x128, .f32⟩
  | 12 => ⟨S1x128, .f32⟩
  | 13 => ⟨S1x128, .f32⟩
  | 14 => ⟨S1024x1x128, .f32⟩
  | 15 => ⟨S1x1x128, .f32⟩
  | 16 => ⟨S1024x1x128, .f32⟩
  | 17 => ⟨S1024x1x128, .f32⟩
  | 18 => ⟨S1024x1x128, .f32⟩
  | 19 => ⟨S_, .f32⟩
  | 20 => ⟨S1024x1, .f32⟩
  | 21 => ⟨S1024x1, .f32⟩
  | 22 => ⟨S1024x1x128, .f32⟩
  | 23 => ⟨S1x1x128, .f32⟩
  | 24 => ⟨S1024x1x128, .f32⟩
  | 25 => ⟨S1024x1x128, .f32⟩
  | 26 => ⟨S1024x1x128, .f32⟩
  | 27 => ⟨S_, .f32⟩
  | 28 => ⟨S1024x1, .f32⟩
  | 29 => ⟨S1024x1, .f32⟩
  | 30 => ⟨S1024x1x128, .f32⟩
  | 31 => ⟨S1x1x128, .f32⟩
  | 32 => ⟨S1024x1x128, .f32⟩
  | 33 => ⟨S1024x1x128, .f32⟩
  | 34 => ⟨S1024x1x128, .f32⟩
  | 35 => ⟨S_, .f32⟩
  | 36 => ⟨S1024x1, .f32⟩
  | 37 => ⟨S1024x1, .f32⟩
  | 38 => ⟨S1024x1x1, .f32⟩
  | 39 => ⟨S1024x1x1, .f32⟩
  | 40 => ⟨S1024x1x1, .f32⟩
  | 41 => ⟨S1024x3x1, .f32⟩
  | 42 => ⟨S1024x3x1, .i32⟩
  | 43 => ⟨S_, .f32⟩
  | 44 => ⟨S_, .i32⟩
  | 45 => ⟨S1024x1, .f32⟩
  | 46 => ⟨S1024x1, .i32⟩
  | 47 => ⟨S1024, .i32⟩
  | 48 => ⟨S_, .i32⟩
  | 49 => ⟨S_, .i32⟩
  | 50 => ⟨S64x1024, .i32⟩
  | 51 => ⟨S64x1024, .i32⟩
  | 52 => ⟨S64x1024, .i32⟩
  | 53 => ⟨S_, .i32⟩
  | 54 => ⟨S64x1024, .i32⟩
  | 55 => ⟨S64x1024, .i1⟩
  | 56 => ⟨S64x1024, .i32⟩
  | 57 => ⟨S64x1024, .i32⟩
  | 58 => ⟨S_, .i32⟩
  | 59 => ⟨S64x1024, .i32⟩
  | 60 => ⟨S64x1024, .i1⟩
  | 61 => ⟨S64x1024, .i1⟩
  | 62 => ⟨S_, .i32⟩
  | 63 => ⟨S64x1024, .i32⟩
  | 64 => ⟨S64x1024, .i32⟩
  | 65 => ⟨S64x1024, .i32⟩
  | 66 => ⟨S1024x64, .i32⟩
  | 67 => ⟨S_, .i32⟩
  | 68 => ⟨S_, .i32⟩
  | 69 => ⟨S64x1024, .i32⟩
  | 70 => ⟨S64x1024, .i32⟩
  | 71 => ⟨S64x1024, .i32⟩
  | 72 => ⟨S_, .i32⟩
  | 73 => ⟨S64x1024, .i32⟩
  | 74 => ⟨S64x1024, .i1⟩
  | 75 => ⟨S64x1024, .i32⟩
  | 76 => ⟨S64x1024, .i32⟩
  | 77 => ⟨S_, .i32⟩
  | 78 => ⟨S64x1024, .i32⟩
  | 79 => ⟨S64x1024, .i1⟩
  | 80 => ⟨S64x1024, .i1⟩
  | 81 => ⟨S_, .i32⟩
  | 82 => ⟨S64x1024, .i32⟩
  | 83 => ⟨S64x1024, .i32⟩
  | 84 => ⟨S64x1024, .i32⟩
  | 85 => ⟨S1024x64, .i32⟩
  | 86 => ⟨S1024x8x8x128, .f32⟩
  | 87 => ⟨S1024, .i32⟩
  | 88 => ⟨S1024x1, .i32⟩
  | 89 => ⟨S_, .i32⟩
  | 90 => ⟨S1024x1, .i32⟩
  | 91 => ⟨S1024x1, .i1⟩
  | 92 => ⟨S_, .i32⟩
  | 93 => ⟨S1024x1, .i32⟩
  | 94 => ⟨S1024x1, .i32⟩
  | 95 => ⟨S1024x1, .i32⟩
  | 96 => ⟨S_, .i32⟩
  | 97 => ⟨S1024x64, .i32⟩
  | 98 => ⟨S1024x64, .i1⟩
  | 99 => ⟨S_, .i32⟩
  | 100 => ⟨S1024x64, .i32⟩
  | 101 => ⟨S1024x64, .i32⟩
  | 102 => ⟨S1024x64, .i32⟩
  | 103 => ⟨S_, .i32⟩
  | 104 => ⟨S1024x64, .i32⟩
  | 105 => ⟨S1024x64, .i1⟩
  | 106 => ⟨S_, .i32⟩
  | 107 => ⟨S1024x64, .i32⟩
  | 108 => ⟨S1024x64, .i32⟩
  | 109 => ⟨S1024x64, .i32⟩
  | 110 => ⟨S1024x64, .i32⟩
  | 111 => ⟨S1024x64x1, .i32⟩
  | 112 => ⟨S1024x64x1, .i32⟩
  | 113 => ⟨S1024x64x1, .i32⟩
  | 114 => ⟨S1024x64x3, .i32⟩
  | 115 => ⟨S1024x64x128, .f32⟩
  | 116 => ⟨S1x64x128, .f32⟩
  | 117 => ⟨S1x64x128, .f32⟩
  | 118 => ⟨S1x64x128, .f32⟩
  | 119 => ⟨S3x64x128, .f32⟩
  | 120 => ⟨S1024x1x64x128, .f32⟩
  | 121 => ⟨S1x3x64x128, .f32⟩
  | 122 => ⟨S1024x3x64x128, .f32⟩
  | 123 => ⟨S1024x3x64x128, .f32⟩
  | 124 => ⟨S1024x3x64x128, .f32⟩
  | 125 => ⟨S1024x3x64x128, .f32⟩
  | 126 => ⟨S_, .f32⟩
  | 127 => ⟨S1024x3x64, .f32⟩
  | _ => ⟨S1024, .i32⟩

abbrev hbmTy0_1 (i : Nat) : BufTy := match i % 128 with
  | 0 => ⟨S1024x3x64, .f32⟩
  | 1 => ⟨S1024x1x1, .i32⟩
  | 2 => ⟨S1024x1x64, .i32⟩
  | 3 => ⟨S_, .i32⟩
  | 4 => ⟨S1024x1x64, .i32⟩
  | 5 => ⟨S1024x1x64, .i1⟩
  | 6 => ⟨S_, .i32⟩
  | 7 => ⟨S1024x1x64, .i32⟩
  | 8 => ⟨S1024x1x64, .i32⟩
  | 9 => ⟨S1024x1x64, .i32⟩
  | 10 => ⟨S1024x1x64x1, .i32⟩
  | 11 => ⟨S1, .i32⟩
  | 12 => ⟨S_, .i32⟩
  | 13 => ⟨S1024x1x64x1, .i32⟩
  | 14 => ⟨S1024x1x64x1, .i1⟩
  | 15 => ⟨S1x1x1x1, .i32⟩
  | 16 => ⟨S1024x1x64x1, .i32⟩
  | 17 => ⟨S1024x1x64x1, .i1⟩
  | 18 => ⟨S1024x1x64x1, .i1⟩
  | 19 => ⟨S_, .i1⟩
  | 20 => ⟨S1024x1x64, .i1⟩
  | 21 => ⟨S1024x1x64, .f32⟩
  | 22 => ⟨S_, .f32⟩
  | 23 => ⟨S1024x1x64, .f32⟩
  | 24 => ⟨S1024x1x64, .f32⟩
  | 25 => ⟨S65536, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S65536, .f32⟩
  | 35 => ⟨S_, .f32⟩
  | 36 => ⟨S65536, .f32⟩
  | 37 => ⟨S65536, .f32⟩
  | 38 => ⟨S65536, .f32⟩
  | 39 => ⟨S65536, .f32⟩
  | 40 => ⟨S65536, .f32⟩
  | 41 => ⟨S_, .f32⟩
  | 42 => ⟨S_, .f32⟩
  | 43 => ⟨S_, .f32⟩
  | 44 => ⟨S_, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_cst : Ref sig .tc := ⟨.hbm, 43, rfl⟩
abbrev main_call0_c : Ref sig .tc := ⟨.hbm, 44, rfl⟩
abbrev main_call0_v1_0 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v30 : Ref sig .tc := ⟨.hbm, 65, rfl⟩
abbrev main_v31 : Ref sig .tc := ⟨.hbm, 66, rfl⟩
abbrev main_c_2 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_c : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_0 : Ref sig .tc := ⟨.hbm, 81, rfl⟩
abbrev main_call2_v12 : Ref sig .tc := ⟨.hbm, 82, rfl⟩
abbrev main_call2_v13 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_3 : Ref sig .tc := ⟨.hbm, 89, rfl⟩
abbrev main_v37 : Ref sig .tc := ⟨.hbm, 90, rfl⟩
abbrev main_v38 : Ref sig .tc := ⟨.hbm, 91, rfl⟩
abbrev main_c_4 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_c_5 : Ref sig .tc := ⟨.hbm, 96, rfl⟩
abbrev main_v42 : Ref sig .tc := ⟨.hbm, 97, rfl⟩
abbrev main_v43 : Ref sig .tc := ⟨.hbm, 98, rfl⟩
abbrev main_c_6 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_c_7 : Ref sig .tc := ⟨.hbm, 103, rfl⟩
abbrev main_v47 : Ref sig .tc := ⟨.hbm, 104, rfl⟩
abbrev main_v48 : Ref sig .tc := ⟨.hbm, 105, rfl⟩
abbrev main_c_8 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_9 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_call3_c : Ref sig .tc := ⟨.hbm, 131, rfl⟩
abbrev main_call3_v0 : Ref sig .tc := ⟨.hbm, 132, rfl⟩
abbrev main_call3_v1 : Ref sig .tc := ⟨.hbm, 133, rfl⟩
abbrev main_call3_c_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_c_1 : Ref sig .tc := ⟨.hbm, 139, rfl⟩
abbrev main_call3_c_2 : Ref sig .tc := ⟨.hbm, 140, rfl⟩
abbrev main_call3_v6 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_c_3 : Ref sig .tc := ⟨.hbm, 147, rfl⟩
abbrev main_call3_v12 : Ref sig .tc := ⟨.hbm, 148, rfl⟩
abbrev main_call3_v13 : Ref sig .tc := ⟨.hbm, 149, rfl⟩
abbrev main_call3_cst : Ref sig .tc := ⟨.hbm, 150, rfl⟩
abbrev main_call3_v14 : Ref sig .tc := ⟨.hbm, 151, rfl⟩
abbrev main_v72 : Ref sig .tc := ⟨.hbm, 152, rfl⟩
abbrev main_v73 : Ref sig .tc := ⟨.hbm, 153, rfl⟩
abbrev main_cst_10 : Ref sig .tc := ⟨.hbm, 154, rfl⟩
abbrev main_v74 : Ref sig .tc := ⟨.hbm, 155, rfl⟩
abbrev main_cst_11 : Ref sig .tc := ⟨.hbm, 156, rfl⟩
abbrev main_v75 : Ref sig .tc := ⟨.hbm, 157, rfl⟩
abbrev main_v76 : Ref sig .tc := ⟨.hbm, 158, rfl⟩
abbrev main_cst_12 : Ref sig .tc := ⟨.hbm, 159, rfl⟩
abbrev main_v77 : Ref sig .tc := ⟨.hbm, 160, rfl⟩
abbrev main_cst_13 : Ref sig .tc := ⟨.hbm, 161, rfl⟩
abbrev main_v78 : Ref sig .tc := ⟨.hbm, 162, rfl⟩
abbrev main_cst_14 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_cst_15 : Ref sig .tc := ⟨.hbm, 169, rfl⟩
abbrev main_v84 : Ref sig .tc := ⟨.hbm, 170, rfl⟩
abbrev main_cst_16 : Ref sig .tc := ⟨.hbm, 171, rfl⟩
abbrev main_v85 : Ref sig .tc := ⟨.hbm, 172, rfl⟩

abbrev nD : Nat := 1
abbrev τ : Topo := Topo.v7x

variable {F : FTy → Type} [FloatOps F]
-- ==== Proof.Twin.lean ====
module

public import proofs.«01_k».proof.Proof.Gen.KernelIdeal.Frame
public import proofs.«01_k».proof.Proof.Gen.Kernel.Frame

@[expose] public section

set_option maxRecDepth 16384
set_option maxHeartbeats 400000

noncomputable section

namespace Cert.Hand

open Idealize.ShloMosaic Idealize.SL.Sem

variable {F : FTy → Type} [FloatOps F]

/-! The kernel and its idealization are printed as the same program: what one does, the other does. -/

/-- The two programs have one main function. -/
theorem main_same : Cert.Kernel.main (F := F) = Cert.KernelIdeal.main (F := F) := rfl

/-- They have one kernel body. -/
theorem defs0_same : Cert.Kernel.defs₀ (F := F) = Cert.KernelIdeal.defs₀ (F := F) := by
  unfold Cert.Kernel.defs₀ Cert.KernelIdeal.defs₀
  refine congrArg Defs.onTc ?_
  funext l x
  fin_cases l
  rfl

/-- They have one body table. -/
theorem defs_same : Cert.Kernel.defs (F := F) = Cert.KernelIdeal.defs (F := F) := by
  unfold Cert.Kernel.defs Cert.KernelIdeal.defs
  exact congrArg (fun d => Pipeline.defs Cert.KernelIdeal.pcfgs d) defs0_same

/-- So a run of the one is a run of the other. -/
theorem run_same (s) (Q) (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]
  exact h

end Cert.Hand

end
-- ==== Proof.Run.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.VecWindow
public import Idealize.ShloMosaic.Lib.WritesUnit
public import Idealize.ShloMosaic.Lib.Pipeline.ValueKit
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one run of the kernel's body leaves, written as functions of the blocks it reads -/

/-- Row `k` of the block of domain means. -/
abbrev meRow0 (me : Vec F S3x128 .f32) : Vec F S1x128 .f32 :=
  View.ld me (Rect.unit (s := S3x128) ![0, 0] S1x128.size inb_S3x128_S1x128_0_0)
/-- The second row of the block of domain means. -/
abbrev meRow1 (me : Vec F S3x128 .f32) : Vec F S1x128 .f32 :=
  View.ld me (Rect.unit (s := S3x128) ![1, 0] S1x128.size inb_S3x128_S1x128_1_0)
/-- The third row of the block of domain means. -/
abbrev meRow2 (me : Vec F S3x128 .f32) : Vec F S1x128 .f32 :=
  View.ld me (Rect.unit (s := S3x128) ![2, 0] S1x128.size inb_S3x128_S1x128_2_0)

/-- The block of distances to the three domain means. -/
def distB (e : Vec F S128x128 .f32) (me : Vec F S3x128 .f32) : Vec F S128x3 .f32 :=
  k0_pay9 e (meRow0 me) (meRow1 me) (meRow2 me)
/-- The block of nearest domains. -/
def valB (e : Vec F S128x128 .f32) (me : Vec F S3x128 .f32) : Vec F S128x1 .i32 :=
  k0_pay10 e (meRow0 me) (meRow1 me) (meRow2 me)
/-- The distance of every point feature to the first prototype of its column. -/
def e0B (fm : Vec F S128x64x128 .f32) (cx cy : Vec F S64x128 .i32) (mn : Vec F S128x192 .f32) : Vec F S128x64 .f32 :=
  k0_pay18 k0_pay14 (k0_pay15 cx cy fm) (k0_pay16 mn) (k0_pay17 cx cy fm mn) (constant S128x64 .f32 0x00000000#32)
/-- The distance of every point feature to the second prototype of its column. -/
def e1B (fm : Vec F S128x64x128 .f32) (cx cy : Vec F S64x128 .i32) (mn : Vec F S128x192 .f32) : Vec F S128x64 .f32 :=
  k0_pay19 (k0_pay12 cx cy fm) (k0_pay13 mn) k0_pay14 (k0_pay15 cx cy fm) (k0_pay16 mn)
/-- The distance of every point feature to the third prototype of its column. -/
def e2B (fm : Vec F S128x64x128 .f32) (cx cy : Vec F S64x128 .i32) (mn : Vec F S128x192 .f32) : Vec F S128x64 .f32 :=
  k0_pay20 (k0_pay12 cx cy fm) (k0_pay13 mn) k0_pay14 (k0_pay15 cx cy fm) (k0_pay16 mn)
/-- The distance of every point feature to the prototype its label names. -/
def sameB (fm : Vec F S128x64x128 .f32) (cx cy : Vec F S64x128 .i32) (lab : Vec F S1x1x128 .i32) (mn : Vec F S128x192 .f32) :
    Vec F S128x64 .f32 :=
  k0_pay21 (k0_pay11 lab) (k0_pay12 cx cy fm) (k0_pay13 mn) k0_pay14 (k0_pay15 cx cy fm) (k0_pay16 mn) (k0_pay17 cx cy fm mn)
    (constant S128x64 .f32 0x00000000#32)

/-! ## The branch conditions over the grid -/

/-- The first branch of the body: a block is computed. -/
abbrev cond0_0 (i : grid0.Coords) : Prop := k0_cond1 i = 1#1
/-- It is taken at the first eight points. -/
theorem hcond0_0 : ∀ t : Fin grid0.N, cond0_0 (grid0.coords t) ↔ t.val < 8 := by decide +kernel
/-- The second branch: the accumulators are set. -/
abbrev cond0_1 (i : grid0.Coords) : Prop :=
  (Scalar.cmpi .ne (Scalar.extui (Scalar.cmpi .eq (BitVec.ofNat 32 (i 0).val) 0#32)) 0#32) = 1#1
/-- It is taken at the first point. -/
theorem hcond0_1 : ∀ t : Fin grid0.N, cond0_1 (grid0.coords t) ↔ t.val = 0 := by decide +kernel
/-- The third branch: the accumulators are added to. -/
abbrev cond0_2 (i : grid0.Coords) : Prop :=
  (Scalar.cmpi .ne (Scalar.extui (Scalar.cmpi .sgt (BitVec.ofNat 32 (i 0).val) 0#32)) 0#32) = 1#1
/-- It is taken at every point but the first. -/
theorem hcond0_2 : ∀ t : Fin grid0.N, cond0_2 (grid0.coords t) ↔ 1 ≤ t.val := by decide +kernel
/-- The fourth branch: the loss is stored. -/
abbrev cond0_3 (i : grid0.Coords) : Prop := k0_cond4 i = 1#1
/-- It is taken at the ninth point. -/
theorem hcond0_3 : ∀ t : Fin grid0.N, cond0_3 (grid0.coords t) ↔ t.val = 8 := by decide +kernel

/-- The rows of the scratch a point stores start at 128 times the point. -/
theorem off1_eq : ∀ t : Fin grid0.N, t.val < 8 → k0_off1 (grid0.coords t) = ![128 * t.val, 0] := by decide +kernel

/-- The two zero offsets are zero on each axis. -/
theorem hz2 : (![0, 0] : Fin 2 → Nat) = fun _ => 0 := funext fun a => by fin_cases a <;> rfl
/-- The three zero offsets are zero on each axis. -/
theorem hz3 : (![0, 0, 0] : Fin 3 → Nat) = fun _ => 0 := funext fun a => by fin_cases a <;> rfl
/-- A load of a whole matrix reads its contents. -/
theorem ld2 {Val : EltTy → Type} {e : EltTy} {d : Fin 2 → ℕ} (X : (⟨2, d⟩ : Shape).Idx → Val e) (inb) :
    View.ld X (Rect.unit (s := ⟨2, d⟩) ![0, 0] d inb) = X := View.ld_unit_zero (S := ⟨2, d⟩) hz2 inb X
/-- A load of a whole rank-3 array reads its contents. -/
theorem ld3 {Val : EltTy → Type} {e : EltTy} {d : Fin 3 → ℕ} (X : (⟨3, d⟩ : Shape).Idx → Val e) (inb) :
    View.ld X (Rect.unit (s := ⟨3, d⟩) ![0, 0, 0] d inb) = X := View.ld_unit_zero (S := ⟨3, d⟩) hz3 inb X

set_option maxHeartbeats 1000000 in
/-- At the first grid point the body stores the block of distances, the block of nearest domains, the rows of label distances, and sets both accumulators. -/
theorem runA (c : Dev nD) (i : grid0.Coords)
    (arg1 : Memref sig .tc .vmem S128x64x128 .f32) (harg1 : arg1.IsWhole)
    (arg2 : Memref sig .tc .vmem S64x128 .i32) (harg2 : arg2.IsWhole)
    (arg3 : Memref sig .tc .vmem S64x128 .i32) (harg3 : arg3.IsWhole)
    (arg4 : Memref sig .tc .vmem S1x1x128 .i32) (harg4 : arg4.IsWhole)
    (arg5 : Memref sig .tc .vmem S128x128 .f32) (harg5 : arg5.IsWhole)
    (arg6 : Memref sig .tc .vmem S128x192 .f32) (harg6 : arg6.IsWhole)
    (arg7 : Memref sig .tc .vmem S3x128 .f32) (harg7 : arg7.IsWhole)
    (arg8 : Memref sig .tc .vmem S128x3 .f32) (harg8 : arg8.IsWhole)
    (arg9 : Memref sig .tc .vmem S128x1 .i32) (harg9 : arg9.IsWhole)
    (arg10 : Memref sig .tc .vmem S1x1 .f32) (harg10 : arg10.IsWhole)
    (arg11 : Memref sig .tc .vmem S1024x64 .f32) (harg11 : arg11.IsWhole)
    (arg12 : Memref sig .tc .vmem S1x64 .f32) (harg12 : arg12.IsWhole)
    (arg13 : Memref sig .tc .vmem S1x64 .f32) (harg13 : arg13.IsWhole)
    (hc0 : cond0_0 i)
    (hc1 : cond0_1 i)
    (hc2 : ¬ cond0_2 i)
    (hc3 : ¬ cond0_3 i)
    (x0 : Vec F S128x64x128 .f32)
    (x1 : Vec F S64x128 .i32)
    (x2 : Vec F S64x128 .i32)
    (x3 : Vec F S1x1x128 .i32)
    (x4 : Vec F S128x128 .f32)
    (x5 : Vec F S128x192 .f32)
    (x6 : Vec F S3x128 .f32)
    (d7 : Vec F S128x3 .f32)
    (d8 : Vec F S128x1 .i32)
    (d9 : Vec F S1x1 .f32)
    (s0 : Vec F S1024x64 .f32)
    (s1 : Vec F S1x64 .f32)
    (s2 : Vec F S1x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ owns (c : Thread nD τ) arg9 fullShare d8 ∗ owns (c : Thread nD τ) arg10 fullShare d9 ∗ owns (c : Thread nD τ) arg11 fullShare s0 ∗ owns (c : Thread nD τ) arg12 fullShare s1 ∗ owns (c : Thread nD τ) arg13 fullShare s2 ∗
      (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (distB x4 x6) ∗ owns (c : Thread nD τ) arg9 fullShare (valB x4 x6) ∗ owns (c : Thread nD τ) arg10 fullShare d9 ∗ owns (c : Thread nD τ) arg11 fullShare (VecWindow.put s0 (k0_off1 i) S128x64.size (k0_pay1 (sameB x0 x1 x2 x3 x5))) ∗ owns (c : Thread nD τ) arg12 fullShare (k0_pay4 (e0B x0 x1 x2 x5) (e1B x0 x1 x2 x5) (e2B x0 x1 x2 x5)) ∗ owns (c : Thread nD τ) arg13 fullShare (k0_pay5 (sameB x0 x1 x2 x3 x5))) -∗ K ⟨⟩))
    ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  sl_exec (disch := first | sl_exact hc0 | sl_exact hc1 | sl_exact hc2 | sl_exact hc3)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    exact harg4.read_unread _
  isplitl [H4]
  · iexists _; isplitr; swap; · iexact H4
    ipureintro
    exact harg5.read_unread _
  isplitl [H5]
  · iexists _; isplitr; swap; · iexact H5
    ipureintro
    exact harg6.read_unread _
  isplitl [H6]
  · iexists _; isplitr; swap; · iexact H6
    ipureintro
    exact harg7.read_unread _
  isplitl [H7]
  · iexists _; isplitr; swap; · iexact H7
    ipureintro
    refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  isplitl [H8]
  · iexists _; isplitr; swap; · iexact H8
    ipureintro
    refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  isplitl [H9]
  · iexists _; isplitr; swap; · iexact H9
    ipureintro
    exact harg10.read_unread _
  isplitl [H10]
  · iexists _; isplitr; swap; · iexact H10
    ipureintro
    refine (View.read_writes_cons_put _ _ _ _ _ rfl).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  isplitl [H11]
  · iexists _; isplitr; swap; · iexact H11
    ipureintro
    refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  iexists _; isplitr; swap; · iexact H12
  ipureintro
  refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]

set_option maxHeartbeats 1000000 in
/-- At a middle grid point the body stores its blocks and adds to both accumulators. -/
theorem runB (c : Dev nD) (i : grid0.Coords)
    (arg1 : Memref sig .tc .vmem S128x64x128 .f32) (harg1 : arg1.IsWhole)
    (arg2 : Memref sig .tc .vmem S64x128 .i32) (harg2 : arg2.IsWhole)
    (arg3 : Memref sig .tc .vmem S64x128 .i32) (harg3 : arg3.IsWhole)
    (arg4 : Memref sig .tc .vmem S1x1x128 .i32) (harg4 : arg4.IsWhole)
    (arg5 : Memref sig .tc .vmem S128x128 .f32) (harg5 : arg5.IsWhole)
    (arg6 : Memref sig .tc .vmem S128x192 .f32) (harg6 : arg6.IsWhole)
    (arg7 : Memref sig .tc .vmem S3x128 .f32) (harg7 : arg7.IsWhole)
    (arg8 : Memref sig .tc .vmem S128x3 .f32) (harg8 : arg8.IsWhole)
    (arg9 : Memref sig .tc .vmem S128x1 .i32) (harg9 : arg9.IsWhole)
    (arg10 : Memref sig .tc .vmem S1x1 .f32) (harg10 : arg10.IsWhole)
    (arg11 : Memref sig .tc .vmem S1024x64 .f32) (harg11 : arg11.IsWhole)
    (arg12 : Memref sig .tc .vmem S1x64 .f32) (harg12 : arg12.IsWhole)
    (arg13 : Memref sig .tc .vmem S1x64 .f32) (harg13 : arg13.IsWhole)
    (hc0 : cond0_0 i)
    (hc1 : ¬ cond0_1 i)
    (hc2 : cond0_2 i)
    (hc3 : ¬ cond0_3 i)
    (x0 : Vec F S128x64x128 .f32)
    (x1 : Vec F S64x128 .i32)
    (x2 : Vec F S64x128 .i32)
    (x3 : Vec F S1x1x128 .i32)
    (x4 : Vec F S128x128 .f32)
    (x5 : Vec F S128x192 .f32)
    (x6 : Vec F S3x128 .f32)
    (d7 : Vec F S128x3 .f32)
    (d8 : Vec F S128x1 .i32)
    (d9 : Vec F S1x1 .f32)
    (s0 : Vec F S1024x64 .f32)
    (s1 : Vec F S1x64 .f32)
    (s2 : Vec F S1x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ owns (c : Thread nD τ) arg9 fullShare d8 ∗ owns (c : Thread nD τ) arg10 fullShare d9 ∗ owns (c : Thread nD τ) arg11 fullShare s0 ∗ owns (c : Thread nD τ) arg12 fullShare s1 ∗ owns (c : Thread nD τ) arg13 fullShare s2 ∗
      (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (distB x4 x6) ∗ owns (c : Thread nD τ) arg9 fullShare (valB x4 x6) ∗ owns (c : Thread nD τ) arg10 fullShare d9 ∗ owns (c : Thread nD τ) arg11 fullShare (VecWindow.put s0 (k0_off1 i) S128x64.size (k0_pay1 (sameB x0 x1 x2 x3 x5))) ∗ owns (c : Thread nD τ) arg12 fullShare (k0_pay6 (e0B x0 x1 x2 x5) (e1B x0 x1 x2 x5) (e2B x0 x1 x2 x5) s1) ∗ owns (c : Thread nD τ) arg13 fullShare (k0_pay7 (sameB x0 x1 x2 x3 x5) s2)) -∗ K ⟨⟩))
    ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  sl_exec (disch := first | sl_exact hc0 | sl_exact hc1 | sl_exact hc2 | sl_exact hc3)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    exact harg4.read_unread _
  isplitl [H4]
  · iexists _; isplitr; swap; · iexact H4
    ipureintro
    exact harg5.read_unread _
  isplitl [H5]
  · iexists _; isplitr; swap; · iexact H5
    ipureintro
    exact harg6.read_unread _
  isplitl [H6]
  · iexists _; isplitr; swap; · iexact H6
    ipureintro
    exact harg7.read_unread _
  isplitl [H7]
  · iexists _; isplitr; swap; · iexact H7
    ipureintro
    refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  isplitl [H8]
  · iexists _; isplitr; swap; · iexact H8
    ipureintro
    refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  isplitl [H9]
  · iexists _; isplitr; swap; · iexact H9
    ipureintro
    exact harg10.read_unread _
  isplitl [H10]
  · iexists _; isplitr; swap; · iexact H10
    ipureintro
    refine (View.read_writes_cons_put _ _ _ _ _ rfl).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  isplitl [H11]
  · iexists _; isplitr; swap; · iexact H11
    ipureintro
    refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  iexists _; isplitr; swap; · iexact H12
  ipureintro
  refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]

set_option maxHeartbeats 1000000 in
/-- At the last grid point the body only stores the loss, from the scratch. -/
theorem runC (c : Dev nD) (i : grid0.Coords)
    (arg1 : Memref sig .tc .vmem S128x64x128 .f32) (harg1 : arg1.IsWhole)
    (arg2 : Memref sig .tc .vmem S64x128 .i32) (harg2 : arg2.IsWhole)
    (arg3 : Memref sig .tc .vmem S64x128 .i32) (harg3 : arg3.IsWhole)
    (arg4 : Memref sig .tc .vmem S1x1x128 .i32) (harg4 : arg4.IsWhole)
    (arg5 : Memref sig .tc .vmem S128x128 .f32) (harg5 : arg5.IsWhole)
    (arg6 : Memref sig .tc .vmem S128x192 .f32) (harg6 : arg6.IsWhole)
    (arg7 : Memref sig .tc .vmem S3x128 .f32) (harg7 : arg7.IsWhole)
    (arg8 : Memref sig .tc .vmem S128x3 .f32) (harg8 : arg8.IsWhole)
    (arg9 : Memref sig .tc .vmem S128x1 .i32) (harg9 : arg9.IsWhole)
    (arg10 : Memref sig .tc .vmem S1x1 .f32) (harg10 : arg10.IsWhole)
    (arg11 : Memref sig .tc .vmem S1024x64 .f32) (harg11 : arg11.IsWhole)
    (arg12 : Memref sig .tc .vmem S1x64 .f32) (harg12 : arg12.IsWhole)
    (arg13 : Memref sig .tc .vmem S1x64 .f32) (harg13 : arg13.IsWhole)
    (hc0 : ¬ cond0_0 i)
    (hc1 : ¬ cond0_1 i)
    (hc2 : cond0_2 i)
    (hc3 : cond0_3 i)
    (x0 : Vec F S128x64x128 .f32)
    (x1 : Vec F S64x128 .i32)
    (x2 : Vec F S64x128 .i32)
    (x3 : Vec F S1x1x128 .i32)
    (x4 : Vec F S128x128 .f32)
    (x5 : Vec F S128x192 .f32)
    (x6 : Vec F S3x128 .f32)
    (d7 : Vec F S128x3 .f32)
    (d8 : Vec F S128x1 .i32)
    (d9 : Vec F S1x1 .f32)
    (s0 : Vec F S1024x64 .f32)
    (s1 : Vec F S1x64 .f32)
    (s2 : Vec F S1x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ owns (c : Thread nD τ) arg9 fullShare d8 ∗ owns (c : Thread nD τ) arg10 fullShare d9 ∗ owns (c : Thread nD τ) arg11 fullShare s0 ∗ owns (c : Thread nD τ) arg12 fullShare s1 ∗ owns (c : Thread nD τ) arg13 fullShare s2 ∗
      (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ owns (c : Thread nD τ) arg9 fullShare d8 ∗ owns (c : Thread nD τ) arg10 fullShare (k0_pay8 s1 s2 s0) ∗ owns (c : Thread nD τ) arg11 fullShare s0 ∗ owns (c : Thread nD τ) arg12 fullShare s1 ∗ owns (c : Thread nD τ) arg13 fullShare s2) -∗ K ⟨⟩))
    ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  sl_exec (disch := first | sl_exact hc0 | sl_exact hc1 | sl_exact hc2 | sl_exact hc3)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    exact harg4.read_unread _
  isplitl [H4]
  · iexists _; isplitr; swap; · iexact H4
    ipureintro
    exact harg5.read_unread _
  isplitl [H5]
  · iexists _; isplitr; swap; · iexact H5
    ipureintro
    exact harg6.read_unread _
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    exact harg9.read_unread _
  isplitl [H9]
  · iexists _; isplitr; swap; · iexact H9
    ipureintro
    refine (View.read_writes_full _ _ _ _ _).trans ?_; sl_unfold_words; simp only [View.readAt_eq_ld, harg1.read_unread, harg2.read_unread, harg3.read_unread, harg4.read_unread, harg5.read_unread, harg6.read_unread, harg7.read_unread, harg11.read_unread, harg12.read_unread, harg13.read_unread, View.writes_nil, ld2, ld3, distB, valB, e0B, e1B, e2B, sameB]
  isplitl [H10]
  · iexists _; isplitr; swap; · iexact H10
    ipureintro
    exact harg11.read_unread _
  isplitl [H11]
  · iexists _; isplitr; swap; · iexact H11
    ipureintro
    exact harg12.read_unread _
  iexists _; isplitr; swap; · iexact H12
  ipureintro
  exact harg13.read_unread _

end Cert.KernelIdeal.Hand

end
-- ==== Proof.Body.lean ====
module

public import proofs.«01_k».proof.Proof.Run
public import Idealize.ShloMosaic.Lib.VecWindow
public import Idealize.ShloMosaic.Lib.Pointwise
public import Idealize.ShloMosaic.Lib.WritesUnit
public import Idealize.ShloMosaic.Lib.Pipeline.ValueKit
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The three cases of the body as one step of the grid -/

/-- What point `t` leaves of the scratch rows: its own 128 rows replaced, nothing at the last point. -/
def stepRows (t : Fin grid0.N) (w : Vec F S128x64 .f32) (s : Vec F S1024x64 .f32) : Vec F S1024x64 .f32 :=
  if t.val < 8 then VecWindow.put s (k0_off1 (grid0.coords t)) S128x64.size (k0_pay1 w) else s
/-- What point `n` leaves of the accumulated sum of all distances. -/
def stepD (n : ℕ) (e0 e1 e2 : Vec F S128x64 .f32) (s : Vec F S1x64 .f32) : Vec F S1x64 .f32 :=
  if n = 0 then k0_pay4 e0 e1 e2 else if n < 8 then k0_pay6 e0 e1 e2 s else s
/-- What point `n` leaves of the accumulated sum of label distances. -/
def stepS (n : ℕ) (w : Vec F S128x64 .f32) (s : Vec F S1x64 .f32) : Vec F S1x64 .f32 :=
  if n = 0 then k0_pay5 w else if n < 8 then k0_pay7 w s else s

/-- The body at any grid point, in one statement: what each buffer holds before and after. -/
theorem run_at (c : Dev nD) (t : Fin grid0.N)
    (arg1 : Memref sig .tc .vmem S128x64x128 .f32) (harg1 : arg1.IsWhole)
    (arg2 : Memref sig .tc .vmem S64x128 .i32) (harg2 : arg2.IsWhole)
    (arg3 : Memref sig .tc .vmem S64x128 .i32) (harg3 : arg3.IsWhole)
    (arg4 : Memref sig .tc .vmem S1x1x128 .i32) (harg4 : arg4.IsWhole)
    (arg5 : Memref sig .tc .vmem S128x128 .f32) (harg5 : arg5.IsWhole)
    (arg6 : Memref sig .tc .vmem S128x192 .f32) (harg6 : arg6.IsWhole)
    (arg7 : Memref sig .tc .vmem S3x128 .f32) (harg7 : arg7.IsWhole)
    (arg8 : Memref sig .tc .vmem S128x3 .f32) (harg8 : arg8.IsWhole)
    (arg9 : Memref sig .tc .vmem S128x1 .i32) (harg9 : arg9.IsWhole)
    (arg10 : Memref sig .tc .vmem S1x1 .f32) (harg10 : arg10.IsWhole)
    (arg11 : Memref sig .tc .vmem S1024x64 .f32) (harg11 : arg11.IsWhole)
    (arg12 : Memref sig .tc .vmem S1x64 .f32) (harg12 : arg12.IsWhole)
    (arg13 : Memref sig .tc .vmem S1x64 .f32) (harg13 : arg13.IsWhole)
    (x0 : Vec F S128x64x128 .f32)
    (x1 : Vec F S64x128 .i32)
    (x2 : Vec F S64x128 .i32)
    (x3 : Vec F S1x1x128 .i32)
    (x4 : Vec F S128x128 .f32)
    (x5 : Vec F S128x192 .f32)
    (x6 : Vec F S3x128 .f32)
    (d7 : Vec F S128x3 .f32)
    (d8 : Vec F S128x1 .i32)
    (d9 : Vec F S1x1 .f32)
    (s0 : Vec F S1024x64 .f32)
    (s1 : Vec F S1x64 .f32)
    (s2 : Vec F S1x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ owns (c : Thread nD τ) arg9 fullShare d8 ∗ owns (c : Thread nD τ) arg10 fullShare d9 ∗ owns (c : Thread nD τ) arg11 fullShare s0 ∗ owns (c : Thread nD τ) arg12 fullShare s1 ∗ owns (c : Thread nD τ) arg13 fullShare s2 ∗
      (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (if t.val < 8 then distB x4 x6 else d7) ∗ owns (c : Thread nD τ) arg9 fullShare (if t.val < 8 then valB x4 x6 else d8) ∗ owns (c : Thread nD τ) arg10 fullShare (if t.val < 8 then d9 else k0_pay8 s1 s2 s0) ∗ owns (c : Thread nD τ) arg11 fullShare (stepRows t (sameB x0 x1 x2 x3 x5) s0) ∗ owns (c : Thread nD τ) arg12 fullShare (stepD t.val (e0B x0 x1 x2 x5) (e1B x0 x1 x2 x5) (e2B x0 x1 x2 x5) s1) ∗ owns (c : Thread nD τ) arg13 fullShare (stepS t.val (sameB x0 x1 x2 x3 x5) s2)) -∗ K ⟨⟩))
    ⊢ wp frame (wpE (defs₀ (F := F)) Variants.none c none) E (cc0__body (grid0.coords t) arg1 harg1 arg2 harg2 arg3 harg3 arg4 harg4 arg5 harg5 arg6 harg6 arg7 harg7 arg8 harg8 arg9 harg9 arg10 harg10 arg11 harg11 arg12 harg12 arg13 harg13) K := by
  have hN : t.val < 9 := lt_of_lt_of_eq t.isLt (show grid0.N = 9 from N_0)
  by_cases h0 : t.val < 8
  · by_cases h1 : t.val = 0
    · simpa only [stepRows, stepD, stepS, if_pos h0, if_pos h1] using
        runA c (grid0.coords t) _ harg1 _ harg2 _ harg3 _ harg4 _ harg5 _ harg6 _ harg7 _ harg8 _ harg9 _ harg10 _ harg11 _ harg12 _ harg13 ((hcond0_0 t).mpr h0) ((hcond0_1 t).mpr h1)
          (fun h => absurd ((hcond0_2 t).mp h) (by omega)) (fun h => absurd ((hcond0_3 t).mp h) (by omega)) x0 x1 x2 x3 x4 x5 x6 d7 d8 d9 s0 s1 s2 E K
    · simpa only [stepRows, stepD, stepS, if_pos h0, if_neg h1] using
        runB c (grid0.coords t) _ harg1 _ harg2 _ harg3 _ harg4 _ harg5 _ harg6 _ harg7 _ harg8 _ harg9 _ harg10 _ harg11 _ harg12 _ harg13 ((hcond0_0 t).mpr h0) (fun h => h1 ((hcond0_1 t).mp h))
          ((hcond0_2 t).mpr (by omega)) (fun h => absurd ((hcond0_3 t).mp h) (by omega)) x0 x1 x2 x3 x4 x5 x6 d7 d8 d9 s0 s1 s2 E K
  · have h1 : ¬ t.val = 0 := by omega
    simpa only [stepRows, stepD, stepS, if_neg h0, if_neg h1] using
      runC c (grid0.coords t) _ harg1 _ harg2 _ harg3 _ harg4 _ harg5 _ harg6 _ harg7 _ harg8 _ harg9 _ harg10 _ harg11 _ harg12 _ harg13 (fun h => h0 ((hcond0_0 t).mp h)) (fun h => h1 ((hcond0_1 t).mp h))
        ((hcond0_2 t).mpr (by omega)) ((hcond0_3 t).mpr (by omega)) x0 x1 x2 x3 x4 x5 x6 d7 d8 d9 s0 s1 s2 E K

/-! # What the whole grid leaves -/

/-- Point `n` of the grid, or the last point that computes a block. -/
def pt (n : ℕ) : Fin cfg0.N := ⟨min n 7, lt_of_le_of_lt (min_le_right _ _) (by decide)⟩

/-- The label distances of block `n`. -/
def sameAt (c : Dev nD) (n : ℕ) : Vec F S128x64 .f32 :=
  sameB (iblk m c 0 (pt n)) (iblk m c 1 (pt n)) (iblk m c 2 (pt n)) (iblk m c 3 (pt n)) (iblk m c 5 (pt n))
/-- The three distances of block `n`. -/
def e0At (c : Dev nD) (n : ℕ) : Vec F S128x64 .f32 :=
  e0B (iblk m c 0 (pt n)) (iblk m c 1 (pt n)) (iblk m c 2 (pt n)) (iblk m c 5 (pt n))
/-- The second of them. -/
def e1At (c : Dev nD) (n : ℕ) : Vec F S128x64 .f32 :=
  e1B (iblk m c 0 (pt n)) (iblk m c 1 (pt n)) (iblk m c 2 (pt n)) (iblk m c 5 (pt n))
/-- The third of them. -/
def e2At (c : Dev nD) (n : ℕ) : Vec F S128x64 .f32 :=
  e2B (iblk m c 0 (pt n)) (iblk m c 1 (pt n)) (iblk m c 2 (pt n)) (iblk m c 5 (pt n))
/-- The sum of all distances after point `n`. -/
def accD (c : Dev nD) : ℕ → Vec F S1x64 .f32
  | 0 => k0_pay4 (e0At m c 0) (e1At m c 0) (e2At m c 0)
  | n + 1 => stepD (n + 1) (e0At m c (n + 1)) (e1At m c (n + 1)) (e2At m c (n + 1)) (accD c n)
/-- The sum of label distances after point `n`. -/
def accS (c : Dev nD) : ℕ → Vec F S1x64 .f32
  | 0 => k0_pay5 (sameAt m c 0)
  | n + 1 => stepS (n + 1) (sameAt m c (n + 1)) (accS c n)
/-- All label distances, as the scratch holds them at the end. -/
def sameAll (c : Dev nD) : Vec F S1024x64 .f32 := fun y =>
  sameAt m c ((y 0).val / 128) (ix2 ⟨(y 0).val % 128, Nat.mod_lt _ (by decide)⟩ ⟨(y 1).val, (y 1).isLt⟩)
/-- The distances of block `n`. -/
def distAt (c : Dev nD) (n : ℕ) : Vec F S128x3 .f32 := distB (iblk m c 4 (pt n)) (iblk m c 6 (pt n))
/-- The nearest domains of block `n`. -/
def valAt (c : Dev nD) (n : ℕ) : Vec F S128x1 .i32 := valB (iblk m c 4 (pt n)) (iblk m c 6 (pt n))
/-- The loss the last point stores. -/
def lossAt (c : Dev nD) : Vec F S1x1 .f32 := k0_pay8 (accD m c 7) (accS m c 7) (sameAll m c)

/-- What the scratch holds before point `n`: the rows of the points before, and the two sums so far. -/
def Held (c : Dev nD) (n : ℕ) (s0 : Vec F S1024x64 .f32) (s1 s2 : Vec F S1x64 .f32) : Prop :=
  (∀ y : S1024x64.Idx, (y 0).val < 128 * n → s0 y = sameAll m c y) ∧ (n ≠ 0 → s1 = accD m c (n - 1) ∧ s2 = accS m c (n - 1))

/-- One point of the grid keeps the scratch as described. -/
theorem Held.step {c : Dev nD} (t : Fin cfg0.N) {s0 : Vec F S1024x64 .f32} {s1 s2 : Vec F S1x64 .f32} (h : Held m c t.val s0 s1 s2) :
    Held m c (t.val + 1) (stepRows t (sameAt m c t.val) s0)
      (stepD t.val (e0At m c t.val) (e1At m c t.val) (e2At m c t.val) s1) (stepS t.val (sameAt m c t.val) s2) := by
  refine ⟨fun y hy => ?_, fun _ => ?_⟩
  · unfold stepRows
    split_ifs with h8
    · rw [off1_eq t h8]
      have hy0 : (y 0).val < 1024 := (y 0).isLt
      have hy1 : (y 1).val < 64 := (y 1).isLt
      unfold VecWindow.put
      split_ifs with hm
      · have h0 : 128 * t.val ≤ (y 0).val := (hm 0).1
        have hq : (y 0).val / 128 = t.val := by omega
        unfold sameAll k0_pay1
        rw [hq, shapeCast_self]
        refine congrArg (sameAt m c t.val) (funext fun a => Fin.ext ?_)
        fin_cases a
        · show (y 0).val - 128 * t.val = (y 0).val % 128
          omega
        · show (y 1).val - 0 = (y 1).val
          omega
      · refine h.1 y ?_
        by_contra hc
        refine hm (Fin.forall_fin_two.mpr ⟨⟨?_, ?_⟩, ⟨?_, ?_⟩⟩)
        · show 128 * t.val ≤ (y 0).val
          omega
        · show (y 0).val < 128 * t.val + 128
          omega
        · exact Nat.zero_le _
        · show (y 1).val < 0 + 64
          omega
    · refine h.1 y ?_
      have hy0 : (y 0).val < 1024 := (y 0).isLt
      omega
  · rw [Nat.add_sub_cancel]
    rcases t with ⟨_ | n, ht⟩
    · exact ⟨rfl, rfl⟩
    · obtain ⟨h1, h2⟩ := h.2 (Nat.succ_ne_zero n)
      simp only [Nat.add_sub_cancel] at h1 h2
      subst h1; subst h2
      exact ⟨rfl, rfl⟩

end Cert.KernelIdeal.Hand

end
-- ==== Proof.Launch.lean ====
module

public import proofs.«01_k».proof.Proof.Body
public import Idealize.ShloMosaic.Lib.VecWindow
public import Idealize.ShloMosaic.Lib.Pointwise
public import Idealize.ShloMosaic.Lib.WritesUnit
public import Idealize.ShloMosaic.Lib.Pipeline.ValueKit
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data of the pipeline: what every window holds after each point, and the scratch between points -/

/-- The scratch before point `n`, and the generator register. -/
def PhiS (c : Dev nD) (n : ℕ) : sProp 𝕄 :=
  iprop((∃ s0 s1 s2, ⌜Held m c n s0 s1 s2⌝ ∗ owns (c : Thread nD τ) (Memref.whole cc0_scratch0) fullShare s0
    ∗ owns (c : Thread nD τ) (Memref.whole cc0_scratch1) fullShare s1 ∗ owns (c : Thread nD τ) (Memref.whole cc0_scratch2) fullShare s2)
    ∗ (∃ r, prngReg c r))

/-- The proof data: inputs keep their blocks, outputs hold what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => distAt m c t.val
    | ⟨8, _⟩ => valAt m c t.val
    | ⟨9, _⟩ => lossAt m c
  Φ t := PhiS m c t.val
  q _ := fullShare
  owed _ := 0

/-- Every window's array is the one the launch finds. -/
theorem A_eq (c : Dev nD) (w : Fin cfg0.W) : (dats m 0 c).A w = V m c (Pipeline.arrRef spec0 w) := by
  dsimp only [dats]
/-- The body leaves its block of features as it was. -/
theorem after_0 (c : Dev nD) (t : Fin cfg0.N) : (dats m 0 c).after 0 t = iblk m c 0 t := by dsimp only [dats]
/-- The body leaves its block of first centroids as it was. -/
theorem after_1 (c : Dev nD) (t : Fin cfg0.N) : (dats m 0 c).after 1 t = iblk m c 1 t := by dsimp only [dats]
/-- The body leaves its block of second centroids as it was. -/
theorem after_2 (c : Dev nD) (t : Fin cfg0.N) : (dats m 0 c).after 2 t = iblk m c 2 t := by dsimp only [dats]
/-- The body leaves its block of labels as it was. -/
theorem after_3 (c : Dev nD) (t : Fin cfg0.N) : (dats m 0 c).after 3 t = iblk m c 3 t := by dsimp only [dats]
/-- The body leaves its block of embeddings as it was. -/
theorem after_4 (c : Dev nD) (t : Fin cfg0.N) : (dats m 0 c).after 4 t = iblk m c 4 t := by dsimp only [dats]
/-- The body leaves its block of prototype table as it was. -/
theorem after_5 (c : Dev nD) (t : Fin cfg0.N) : (dats m 0 c).after 5 t = iblk m c 5 t := by dsimp only [dats]
/-- The body leaves its block of mean embeddings as it was. -/
theorem after_6 (c : Dev nD) (t : Fin cfg0.N) : (dats m 0 c).after 6 t = iblk m c 6 t := by dsimp only [dats]
/-- After a point the window of distances holds the block in place. -/
theorem after_7 (c : Dev nD) (t : Fin cfg0.N) : (dats m 0 c).after 7 t = distAt m c t.val := by dsimp only [dats]
/-- After a point the window of nearest domains holds the block in place. -/
theorem after_8 (c : Dev nD) (t : Fin cfg0.N) : (dats m 0 c).after 8 t = valAt m c t.val := by dsimp only [dats]
/-- The window of the loss is to hold the loss. -/
theorem after_9 (c : Dev nD) (t : Fin cfg0.N) : (dats m 0 c).after 9 t = lossAt m c := by dsimp only [dats]
/-- Before a point the window of features holds that point's block. -/
theorem before_0 (c : Dev nD) (t : Fin cfg0.N) (d) : (dats m 0 c).before 0 t d = iblk m c 0 t :=
  before0_0_of m (dats m 0 c) (A_eq m c 0) (after_0 m c) t d
/-- Before a point the window of first centroids holds that point's block. -/
theorem before_1 (c : Dev nD) (t : Fin cfg0.N) (d) : (dats m 0 c).before 1 t d = iblk m c 1 t :=
  before0_1_of m (dats m 0 c) (A_eq m c 1) (after_1 m c) t d
/-- Before a point the window of second centroids holds that point's block. -/
theorem before_2 (c : Dev nD) (t : Fin cfg0.N) (d) : (dats m 0 c).before 2 t d = iblk m c 2 t :=
  before0_2_of m (dats m 0 c) (A_eq m c 2) (after_2 m c) t d
/-- Before a point the window of labels holds that point's block. -/
theorem before_3 (c : Dev nD) (t : Fin cfg0.N) (d) : (dats m 0 c).before 3 t d = iblk m c 3 t :=
  before0_3_of m (dats m 0 c) (A_eq m c 3) (after_3 m c) t d
/-- Before a point the window of embeddings holds that point's block. -/
theorem before_4 (c : Dev nD) (t : Fin cfg0.N) (d) : (dats m 0 c).before 4 t d = iblk m c 4 t :=
  before0_4_of m (dats m 0 c) (A_eq m c 4) (after_4 m c) t d
/-- Before a point the window of prototype table holds that point's block. -/
theorem before_5 (c : Dev nD) (t : Fin cfg0.N) (d) : (dats m 0 c).before 5 t d = iblk m c 5 t :=
  before0_5_of m (dats m 0 c) (A_eq m c 5) (after_5 m c) t d
/-- Before a point the window of mean embeddings holds that point's block. -/
theorem before_6 (c : Dev nD) (t : Fin cfg0.N) (d) : (dats m 0 c).before 6 t d = iblk m c 6 t :=
  before0_6_of m (dats m 0 c) (A_eq m c 6) (after_6 m c) t d

/-- The distances are stored at each of the first eight points. -/
theorem idle_7 : ∀ t : Fin cfg0.N, t.val < 8 → cfg0.idle 7 (grid0.coords t) = false := by decide +kernel
/-- The nearest domains are stored at each of the first eight points. -/
theorem idle_8 : ∀ t : Fin cfg0.N, t.val < 8 → cfg0.idle 8 (grid0.coords t) = false := by decide +kernel
/-- The loss is left alone at the first eight points, and only there. -/
theorem idle_9 : ∀ t : Fin cfg0.N, cfg0.idle 9 (grid0.coords t) = decide (t.val < 8) := by decide +kernel
/-- Only the last point leaves the distances alone. -/
theorem idle_val_7 : ∀ t : Fin cfg0.N, cfg0.idle 7 (grid0.coords t) = true → t.val = 8 := by decide +kernel
/-- Only the last point leaves the nearest domains alone. -/
theorem idle_val_8 : ∀ t : Fin cfg0.N, cfg0.idle 8 (grid0.coords t) = true → t.val = 8 := by decide +kernel
/-- The last point writes the distances back. -/
theorem flush_7 : ∀ t : Fin cfg0.N, ¬ t.val < 8 → (cfg0.win 7).flush t = true := by decide +kernel
/-- The last point writes the nearest domains back. -/
theorem flush_8 : ∀ t : Fin cfg0.N, ¬ t.val < 8 → (cfg0.win 8).flush t = true := by decide +kernel
/-- No point before the last writes the loss back. -/
theorem flush_9 : ∀ t : Fin cfg0.N, t.val < 8 → (cfg0.win 9).flush t = false := by decide +kernel
/-- The last point keeps the block of distances of the point before. -/
theorem fresh_7 : ∀ t : Fin cfg0.N, ¬ t.val < 8 → cfg0.fresh 7 t.val = false := by decide +kernel
/-- The last point keeps the block of nearest domains of the point before. -/
theorem fresh_8 : ∀ t : Fin cfg0.N, ¬ t.val < 8 → cfg0.fresh 8 t.val = false := by decide +kernel

/-- From the eighth point on, the block in place is the eighth. -/
theorem pt_last {n : ℕ} (h : 7 ≤ n) : pt n = pt 7 := Fin.ext (by show min n 7 = min 7 7; omega)
/-- At one of the first eight points, the block in place is its own. -/
theorem pt_of (t : Fin cfg0.N) (h : t.val < 8) : pt t.val = t := Fin.ext (by show min t.val 7 = t.val; omega)

/-- The last point finds, and leaves, what the point before computed. -/
theorem before_7 (c : Dev nD) (t : Fin cfg0.N) (h : ¬ t.val < 8) (d) : (dats m 0 c).before 7 t d = distAt m c t.val := by
  have hN : t.val < 9 := lt_of_lt_of_eq t.isLt (show cfg0.N = 9 from N_0)
  rw [(dats m 0 c).before_out_traj 7 rfl (fun _ _ => rfl) (fun s _ hs _ => by
    have := idle_val_7 s hs
    rw [after_7, after_7]; unfold distAt
    rw [pt_last (by omega), pt_last (show 7 ≤ s.val - 1 by omega)]) t.val t rfl d, fresh_7 t h, after_7]
  unfold distAt
  simp only [Bool.false_eq_true, if_false]
  rw [pt_last (show 7 ≤ t.val - 1 by omega), pt_last (show 7 ≤ t.val by omega)]
/-- Every point leaves the distances of the block in place. -/
theorem leaves_7 (c : Dev nD) (t : Fin cfg0.N) : (dats m 0 c).leavesExact 7 t
    = owns (c : Thread nD τ) (st0_7 t) fullShare (distAt m c t.val) := by
  unfold Dat.leavesExact
  by_cases h : t.val < 8
  · rw [idle_7 t h, after_7]
  · rw [flush_7 t h, after_7]; cases cfg0.idle 7 (grid0.coords t) <;> rfl

/-- The last point finds, and leaves, what the point before computed. -/
theorem before_8 (c : Dev nD) (t : Fin cfg0.N) (h : ¬ t.val < 8) (d) : (dats m 0 c).before 8 t d = valAt m c t.val := by
  have hN : t.val < 9 := lt_of_lt_of_eq t.isLt (show cfg0.N = 9 from N_0)
  rw [(dats m 0 c).before_out_traj 8 rfl (fun _ _ => rfl) (fun s _ hs _ => by
    have := idle_val_8 s hs
    rw [after_8, after_8]; unfold valAt
    rw [pt_last (by omega), pt_last (show 7 ≤ s.val - 1 by omega)]) t.val t rfl d, fresh_8 t h, after_8]
  unfold valAt
  simp only [Bool.false_eq_true, if_false]
  rw [pt_last (show 7 ≤ t.val - 1 by omega), pt_last (show 7 ≤ t.val by omega)]
/-- Every point leaves the nearest domains of the block in place. -/
theorem leaves_8 (c : Dev nD) (t : Fin cfg0.N) : (dats m 0 c).leavesExact 8 t
    = owns (c : Thread nD τ) (st0_8 t) fullShare (valAt m c t.val) := by
  unfold Dat.leavesExact
  by_cases h : t.val < 8
  · rw [idle_8 t h, after_8]
  · rw [flush_8 t h, after_8]; cases cfg0.idle 8 (grid0.coords t) <;> rfl
/-- Every point leaves its block of features in the window. -/
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
/-- Every point leaves its block of first centroids in the window. -/
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
/-- Every point leaves its block of second centroids in the window. -/
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
/-- Every point leaves its block of labels in the window. -/
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
/-- Every point leaves its block of embeddings in the window. -/
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
/-- Every point leaves its block of prototype table in the window. -/
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
/-- Every point leaves its block of mean embeddings in the window. -/
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]

/-- What the body is handed at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- What the body leaves in the loss window suits the pipeline: unchanged before the last point, the loss at it. -/
theorem leaves_9 (c : Dev nD) (t : Fin cfg0.N) (d) {s0 : Vec F S1024x64 .f32} {s1 s2 : Vec F S1x64 .f32} (h : Held m c t.val s0 s1 s2) :
    owns (c : Thread nD τ) (st0_9 t) fullShare (if t.val < 8 then (dats m 0 c).before 9 t d else k0_pay8 s1 s2 s0)
      ⊢ (dats m 0 c).leavesExact 9 t := by
  have hN : t.val < 9 := lt_of_lt_of_eq t.isLt (show cfg0.N = 9 from N_0)
  by_cases h8 : t.val < 8
  · rw [if_pos h8, (dats m 0 c).leavesExact_idle 9 t (by rw [show cfg0.grid.coords t = grid0.coords t from rfl, idle_9, decide_eq_true h8]) (flush_9 t h8)]
    iintro H; iexists _; iexact H
  · rw [if_neg h8]
    have e0 : s0 = sameAll m c := funext fun y => h.1 y (by have : (y 0).val < 1024 := (y 0).isLt; omega)
    obtain ⟨e1, e2⟩ := h.2 (by omega)
    rw [show t.val - 1 = 7 by omega] at e1 e2
    unfold Dat.leavesExact
    rw [show cfg0.idle 9 (cfg0.grid.coords t) = false by rw [show cfg0.grid.coords t = grid0.coords t from rfl, idle_9, decide_eq_false h8], after_9, e0, e1, e2]
    exact .rfl

/-- The two block outputs, after any point, hold that point's blocks. -/
theorem dist_after (c : Dev nD) (t : Fin cfg0.N) (d) :
    (if t.val < 8 then distB (iblk m c 4 t) (iblk m c 6 t) else (dats m 0 c).before 7 t d) = distAt m c t.val := by
  by_cases h : t.val < 8
  · rw [if_pos h]; unfold distAt; rw [pt_of t h]
  · rw [if_neg h]; exact before_7 m c t h d
/-- The nearest domains, after any point, are those of the block in place. -/
theorem val_after (c : Dev nD) (t : Fin cfg0.N) (d) :
    (if t.val < 8 then valB (iblk m c 4 t) (iblk m c 6 t) else (dats m 0 c).before 8 t d) = valAt m c t.val := by
  by_cases h : t.val < 8
  · rw [if_pos h]; unfold valAt; rw [pt_of t h]
  · rw [if_neg h]; exact before_8 m c t h d

/-- The scratch step at the point's own blocks. -/
theorem held_step (c : Dev nD) (t : Fin cfg0.N) {s0 : Vec F S1024x64 .f32} {s1 s2 : Vec F S1x64 .f32} (h : Held m c t.val s0 s1 s2) :
    Held m c (t.val + 1) (stepRows t (sameB (iblk m c 0 t) (iblk m c 1 t) (iblk m c 2 t) (iblk m c 3 t) (iblk m c 5 t)) s0)
      (stepD t.val (e0B (iblk m c 0 t) (iblk m c 1 t) (iblk m c 2 t) (iblk m c 5 t)) (e1B (iblk m c 0 t) (iblk m c 1 t) (iblk m c 2 t) (iblk m c 5 t))
        (e2B (iblk m c 0 t) (iblk m c 1 t) (iblk m c 2 t) (iblk m c 5 t)) s1)
      (stepS t.val (sameB (iblk m c 0 t) (iblk m c 1 t) (iblk m c 2 t) (iblk m c 3 t) (iblk m c 5 t)) s2) := by
  have := h.step m t
  by_cases h8 : t.val < 8
  · unfold sameAt e0At e1At e2At at this
    rw [pt_of t h8] at this
    exact this
  · have h0 : ¬ t.val = 0 := by omega
    unfold stepRows stepD stepS at this ⊢
    rw [if_neg h8, if_neg h0, if_neg h8, if_neg h0, if_neg h8] at this ⊢
    exact this

set_option maxHeartbeats 1600000 in
/-- The body at any point meets the pipeline's demand. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4,
    leaves_5, leaves_6, leaves_7, leaves_8]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨⟨%s0, %s1, %s2, %hs, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_at c t _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) ((dats m 0 c).before 8 t d8)
    ((dats m 0 c).before 9 t d9) s0 s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  rw [dist_after m c t d7, val_after m c t d8]
  iintro ⟨H0, H1, H2, H3, H4, H5, H6, H7, H8, H9, HS0, HS1, HS2⟩
  isplitl [HS0 HS1 HS2 Hg]
  · isplitl [HS0 HS1 HS2]
    · iexists _; iexists _; iexists _
      isplitr; swap
      · isplitl [HS0]; · iexact HS0
        isplitl [HS1]; · iexact HS1
        iexact HS2
      ipureintro; exact held_step m c t hs
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves_9 m c t d9 hs); iexact H9

/-- The pipeline's call is the body at the point. -/
theorem defs₀_row (t : Fin cfg0.N) :
    defs₀ (F := F) .tc cfg0.body (cfg0.bodyArgs t (cfg0.slots t)) = bodyAt0 t := by unfold defs₀; rw [Defs.onTc_tc]

/-- The body does at every point what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch at any contents is the description before the first point, -/
theorem hin (c : Dev nD) : Pipeline.ΦA spec0 c ⊢ (dats m 0 c).Φ 0 := by
  rw [show (dats m 0 c).Φ 0 = PhiS m c 0 from rfl]
  unfold Pipeline.ΦA PhiS; rw [scopedRest0_eq]
  simp only [owns_whole]
  iintro ⟨⟨⟨%s0, HS0⟩, ⟨%s1, HS1⟩, ⟨%s2, HS2⟩⟩, Hg⟩
  isplitl [HS0 HS1 HS2]
  · iexists s0; iexists s1; iexists s2
    isplitr
    · ipureintro; exact ⟨fun y hy => absurd hy (by omega), fun h => absurd rfl h⟩
    isplitl [HS0]; · iexact HS0
    isplitl [HS1]; · iexact HS1
    iexact HS2
  · iexact Hg
/-- and what is left after the last one is scratch at some contents. -/
theorem hout (c : Dev nD) : (dats m 0 c).Φ (Fin.last cfg0.N) ⊢ Pipeline.ΦA spec0 c := by
  rw [show (dats m 0 c).Φ (Fin.last cfg0.N) = PhiS m c cfg0.N from rfl]
  unfold Pipeline.ΦA PhiS; rw [scopedRest0_eq]
  simp only [owns_whole]
  iintro ⟨⟨%s0, %s1, %s2, -, HS0, HS1, HS2⟩, Hg⟩
  isplitl [HS0 HS1 HS2]
  · isplitl [HS0]; · iexists s0; iexact HS0
    isplitl [HS1]; · iexists s1; iexact HS1
    iexists s2; iexact HS2
  · iexact Hg

set_option backward.isDefEq.respectTransparency.types false in
set_option maxHeartbeats 800000 in
/-- The launch: every run ends with every window's array at what the pipeline leaves there, and all counters at zero. -/
theorem run_quiet : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.Math.lean ====
module

public import Idealize.ShloMosaic.Lib.Pointwise
public import Idealize.ShloMosaic.Lib.IdealHost
public import Idealize.ShloMosaic.PureOps.Ideal.Laws

@[expose] public section

noncomputable section

namespace Cert.Hand

open Idealize.ShloMosaic

/-! Facts about extended reals and words that mention neither program. -/

/-- One of three things, by a number below three. -/
def pick3 {α : Type} (k : ℕ) (a b c : α) : α := if k = 0 then a else if k = 1 then b else c

/-- A ladder over a place below three is `pick3`. -/
theorem ladder_eq {α : Type} (k : Fin 3) (a b c : α) :
    (if h : (k : ℕ) < 1 then a else if h : (k : ℕ) - 1 < 1 then b else c) = pick3 k a b c := by
  unfold pick3
  fin_cases k <;> simp

/-- The place of the first smallest of three values. -/
def amin3 (a b c : EReal) : BitVec 32 := if a ≤ b ∧ a ≤ c then 0#32 else if b ≤ c then 1#32 else 2#32

/-- The distance between two vectors. -/
def vdist (a b : Fin 128 → EReal) : EReal := Ideal.sqrt (∑ c, (a c - b c) * (a c - b c))

/-- A sum of reals is the real sum. -/
theorem coe_sum {n : ℕ} (f : Fin n → ℝ) : (∑ c, (f c : EReal)) = ((∑ c, f c : ℝ) : EReal) := by
  symm
  exact map_sum (⟨⟨((↑) : ℝ → EReal), EReal.coe_zero⟩, EReal.coe_add⟩ : ℝ →+ EReal) f Finset.univ

/-- The f32 pattern of two. -/
theorem two_f32 : Ideal.ofBits .f32 0x40000000#32 = ((2 : ℝ) : EReal) := by
  simp [Ideal.ofBits, Ideal.ieee, -EReal.coe_mul]; norm_num

/-- On finite vectors the distance is the root of the expanded square, clipped at zero. -/
theorem dist_expand (a b : Fin 128 → EReal) (ha : ∀ c, ∃ r : ℝ, a c = r) (hb : ∀ c, ∃ r : ℝ, b c = r) :
    Ideal.sqrt (max ((∑ c, a c * a c) - Ideal.ofBits .f32 0x40000000#32 * (∑ c, a c * b c) + ∑ c, b c * b c) 0) = vdist a b := by
  choose x hx using ha
  choose y hy using hb
  obtain rfl : a = fun c => (x c : EReal) := funext hx
  obtain rfl : b = fun c => (y c : EReal) := funext hy
  unfold vdist
  simp only [two_f32, ← EReal.coe_mul, ← EReal.coe_sub, coe_sum, ← EReal.coe_add]
  have e : (∑ c, x c * x c) - 2 * (∑ c, x c * y c) + ∑ c, y c * y c = ∑ c, (x c - y c) * (x c - y c) := by
    rw [Finset.mul_sum, ← Finset.sum_sub_distrib, ← Finset.sum_add_distrib]
    exact Finset.sum_congr rfl fun c _ => by ring
  rw [e, max_eq_left]
  exact EReal.coe_nonneg.2 (Finset.sum_nonneg fun c _ => mul_self_nonneg _)

/-- A sum against the indicator of one place, as the words of an equality give it, is the entry at that place. -/
theorem sum_onehot {n : ℕ} (f : Fin n → EReal) (w : BitVec 32) (s : Fin n) (hn : n < 2 ^ 32) (hw : w = BitVec.ofNat 32 s) :
    ∑ x, f x * FloatOps.sitofp (F := Ideal) .f32 (BitVec.setWidth 32 (IntOp.cmpi .eq (BitVec.ofNat 32 (x : ℕ)) w)) = f s := by
  subst hw
  rw [Finset.sum_eq_single s]
  · simp [IntOp.cmpi, FloatOps.sitofp]
  · intro x _ hx
    have : BitVec.ofNat 32 (x : ℕ) ≠ BitVec.ofNat 32 (s : ℕ) := by
      intro h
      have := congrArg BitVec.toNat h
      rw [BitVec.toNat_ofNat, BitVec.toNat_ofNat, Nat.mod_eq_of_lt (by omega), Nat.mod_eq_of_lt (by omega)] at this
      exact hx (Fin.ext this)
    have e : IntOp.cmpi .eq (BitVec.ofNat 32 (x : ℕ)) (BitVec.ofNat 32 (s : ℕ)) = 0#1 := by
      simp [IntOp.cmpi, beq_eq_false_iff_ne.2 this]
    rw [e]
    simp [FloatOps.sitofp]
  · simp

/-- The kernel's quotient by 28: a product and a shift. -/
theorem shift_word : ∀ k : Fin 224,
    IntOp.shrsi .vector (IntOp.muli (BitVec.ofNat 32 (k : ℕ)) 2341#32) 16#32 = BitVec.ofNat 32 ((k : ℕ) / 28) := by
  decide +kernel

/-- The cell of the grid, from its two coordinates. -/
theorem cell_word : ∀ a b : Fin 8, IntOp.addi (IntOp.muli (BitVec.ofNat 32 (a : ℕ)) 8#32) (BitVec.ofNat 32 (b : ℕ)) = BitVec.ofNat 32 ((a : ℕ) * 8 + b) := by
  decide +kernel

/-- A selection by two comparisons of a label is the label's pick. -/
theorem select_label {α : Type} (l : Fin 3) (a b c : α) :
    Scalar.select (IntOp.cmpi .eq (BitVec.ofNat 32 (l : ℕ)) 0#32) a (Scalar.select (IntOp.cmpi .eq (BitVec.ofNat 32 (l : ℕ)) 1#32) b c) = pick3 l a b c := by
  fin_cases l <;> rfl

/-- The pattern of the seventeenth negative power of two. -/
theorem inv17_f32 : Ideal.ofBits .f32 0x37000000#32 = (((131072 : ℝ)⁻¹ : ℝ) : EReal) := by
  simp [Ideal.ofBits, Ideal.ieee, -EReal.coe_mul]; norm_num
/-- The pattern of the sixteenth negative power of two. -/
theorem inv16_f32 : Ideal.ofBits .f32 0x37800000#32 = (((65536 : ℝ)⁻¹ : ℝ) : EReal) := by
  simp [Ideal.ofBits, Ideal.ieee, -EReal.coe_mul]; norm_num
/-- The pattern of the seventeenth power of two. -/
theorem p17_f32 : Ideal.ofBits .f32 0x48000000#32 = ((131072 : ℝ) : EReal) := by
  simp [Ideal.ofBits, Ideal.ieee, -EReal.coe_mul]; norm_num
/-- The pattern of the sixteenth power of two. -/
theorem p16_f32 : Ideal.ofBits .f32 0x47800000#32 = ((65536 : ℝ) : EReal) := by
  simp [Ideal.ofBits, Ideal.ieee, -EReal.coe_mul]; norm_num

/-- Multiplying by the negative power is dividing by the power. -/
theorem mul_inv17 (x : EReal) : x * Ideal.ofBits .f32 0x37000000#32 = Ideal.div x (Ideal.ofBits .f32 0x48000000#32) := by
  rw [inv17_f32, p17_f32, Ideal.div_coe (by norm_num), one_div]
/-- Multiplying by the negative power is dividing by the power. -/
theorem mul_inv16 (x : EReal) : x * Ideal.ofBits .f32 0x37800000#32 = Ideal.div x (Ideal.ofBits .f32 0x47800000#32) := by
  rw [inv16_f32, p16_f32, Ideal.div_coe (by norm_num), one_div]

/-- The hinge, in the order of either program. -/
theorem hinge_eq (s d : EReal) : max (s + (1 - d)) 0 = max 0 (1 + s - d) := by
  rw [max_comm, sub_eq_add_neg, sub_eq_add_neg, ← add_assoc, add_comm s 1]

end Cert.Hand

end
-- ==== Proof.Pure.lean ====
module

public import proofs.«01_k».proof.Proof.Run
public import proofs.«01_k».proof.Proof.Math
public import Idealize.ShloMosaic.Lib.Pointwise

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic Idealize.SL.Sem

/-! The values that the kernel's body stores, read at one entry. -/

/-- A block of distances: the entry's row of embeddings against the column's mean. -/
theorem distB_at (e : Vec Ideal S128x128 .f32) (me : Vec Ideal S3x128 .f32) (b : Fin 128) (k : Fin 3) :
    distB e me (ix2 b k) = pick3 k (vdist (fun c => e (ix2 b c)) (fun c => me (ix2 0 c))) (vdist (fun c => e (ix2 b c)) (fun c => me (ix2 1 c)))
      (vdist (fun c => e (ix2 b c)) (fun c => me (ix2 2 c))) := by
  rw [← ladder_eq]
  pointwise [distB, meRow0, meRow1, meRow2, k0_pay9]
  unfold vdist
  split_ifs <;> rfl

/-- A block of nearest means: the place of the smallest of the row's three distances. -/
theorem valB_at (e : Vec Ideal S128x128 .f32) (me : Vec Ideal S3x128 .f32) (b : Fin 128) :
    valB e me (ix2 b 0) = amin3 (distB e me (ix2 b 0)) (distB e me (ix2 b 1)) (distB e me (ix2 b 2)) := by
  have h : valB e me (ix2 b 0) = Scalar.select (IntOp.andi (BitVec.ofBool (decide (distB e me (ix2 b 0) ≤ distB e me (ix2 b 1))))
      (BitVec.ofBool (decide (distB e me (ix2 b 0) ≤ distB e me (ix2 b 2))))) 0#32
      (if distB e me (ix2 b 1) ≤ distB e me (ix2 b 2) then 1#32 else 2#32) := by
    pointwise [valB, k0_pay10]
    rfl
  rw [h]
  unfold amin3
  generalize distB e me (ix2 b 0) = a
  generalize distB e me (ix2 b 1) = c
  generalize distB e me (ix2 b 2) = d
  by_cases h1 : a ≤ c <;> by_cases h2 : a ≤ d <;> simp [h1, h2, Scalar.select, IntOp.andi]

/-- The feature vector of a part: the entry of the feature map in the cell that its centroid lies in. -/
theorem pay12_at (cx cy : Vec Ideal S64x128 .i32) (fm : Vec Ideal S128x64x128 .f32) (b : Fin 128) (c : Fin 128) (p : Fin 64)
    (nx ny : Fin 224) (hx : cx (ix2 p b) = BitVec.ofNat 32 nx) (hy : cy (ix2 p b) = BitVec.ofNat 32 ny) :
    k0_pay12 (F := Ideal) cx cy fm (ix3 b c p) = fm (ix3 b ⟨(nx : ℕ) / 28 * 8 + (ny : ℕ) / 28, by omega⟩ c) := by
  pointwise [k0_pay12]
  rw [hx, hy, shift_word, shift_word]
  exact sum_onehot (fun x : Fin 64 => fm (ix3 b x c)) _ ⟨(nx : ℕ) / 28 * 8 + (ny : ℕ) / 28, by omega⟩ (by norm_num)
    (cell_word ⟨(nx : ℕ) / 28, by omega⟩ ⟨(ny : ℕ) / 28, by omega⟩)

section Parts

variable (fm : Vec Ideal S128x64x128 .f32) (cx cy : Vec Ideal S64x128 .i32) (mn : Vec Ideal S128x192 .f32) (b : Fin 128) (p : Fin 64)
variable (hfm : ∀ c, ∃ r : ℝ, k0_pay12 (F := Ideal) cx cy fm (ix3 b c p) = r)

include hfm

/-- The distance of a part to its first mean. -/
theorem e0B_at (hmn : ∀ c, ∃ r : ℝ, mn (ix2 c ⟨p, by omega⟩) = r) :
    e0B fm cx cy mn (ix2 b p) = vdist (fun c => k0_pay12 (F := Ideal) cx cy fm (ix3 b c p)) (fun c => mn (ix2 c ⟨p, by omega⟩)) := by
  rw [← dist_expand _ _ hfm hmn]
  pointwise [e0B, k0_pay18, k0_pay13, k0_pay14, k0_pay15, k0_pay16, k0_pay17]

/-- The distance of a part to its second mean. -/
theorem e1B_at (hmn : ∀ c, ∃ r : ℝ, mn (ix2 c ⟨64 + p, by omega⟩) = r) :
    e1B fm cx cy mn (ix2 b p) = vdist (fun c => k0_pay12 (F := Ideal) cx cy fm (ix3 b c p)) (fun c => mn (ix2 c ⟨64 + p, by omega⟩)) := by
  rw [← dist_expand _ _ hfm hmn]
  pointwise [e1B, k0_pay19, k0_pay13, k0_pay14, k0_pay15, k0_pay16, k0_pay17]

/-- The distance of a part to its third mean. -/
theorem e2B_at (hmn : ∀ c, ∃ r : ℝ, mn (ix2 c ⟨128 + p, by omega⟩) = r) :
    e2B fm cx cy mn (ix2 b p) = vdist (fun c => k0_pay12 (F := Ideal) cx cy fm (ix3 b c p)) (fun c => mn (ix2 c ⟨128 + p, by omega⟩)) := by
  rw [← dist_expand _ _ hfm hmn]
  pointwise [e2B, k0_pay20, k0_pay13, k0_pay14, k0_pay15, k0_pay16, k0_pay17]

end Parts

/-- The distance of a part to the mean its row's label names. -/
theorem sameB_at (fm : Vec Ideal S128x64x128 .f32) (cx cy : Vec Ideal S64x128 .i32) (lab : Vec Ideal S1x1x128 .i32) (mn : Vec Ideal S128x192 .f32)
    (b : Fin 128) (p : Fin 64) (l : Fin 3) (hl : lab (ix3 0 0 b) = BitVec.ofNat 32 l) :
    sameB fm cx cy lab mn (ix2 b p) = pick3 l (e0B fm cx cy mn (ix2 b p)) (e1B fm cx cy mn (ix2 b p)) (e2B fm cx cy mn (ix2 b p)) := by
  rw [← select_label, ← hl]
  pointwise [sameB, k0_pay21, k0_pay11]
  rfl

/-- The sums of a block's distances, down its rows. -/
theorem pay2_at (x y z : FVec Ideal S128x64 .f32) (p : Fin 64) :
    k0_pay2 x y z (ix2 0 p) = ∑ b : Fin 128, (x (ix2 b p) + y (ix2 b p) + z (ix2 b p)) := by
  pointwise [k0_pay2]

/-- The sums of a block's label distances, down its rows. -/
theorem pay3_at (x : FVec Ideal S128x64 .f32) (p : Fin 64) : k0_pay3 x (ix2 0 p) = ∑ b : Fin 128, x (ix2 b p) := by
  pointwise [k0_pay3]

/-- The first block's sums are stored as they are. -/
theorem pay4_at (x y z : FVec Ideal S128x64 .f32) (p : Fin 64) : k0_pay4 x y z (ix2 0 p) = k0_pay2 x y z (ix2 0 p) := by
  pointwise [k0_pay4]
/-- The first block's label sums are stored as they are. -/
theorem pay5_at (x : FVec Ideal S128x64 .f32) (p : Fin 64) : k0_pay5 x (ix2 0 p) = k0_pay3 x (ix2 0 p) := by
  pointwise [k0_pay5]
/-- A later block's sums are added. -/
theorem pay6_at (x y z : FVec Ideal S128x64 .f32) (s : Vec Ideal S1x64 .f32) (p : Fin 64) :
    k0_pay6 x y z s (ix2 0 p) = s (ix2 0 p) + k0_pay2 x y z (ix2 0 p) := by
  pointwise [k0_pay6]
/-- A later block's label sums are added. -/
theorem pay7_at (x : FVec Ideal S128x64 .f32) (s : Vec Ideal S1x64 .f32) (p : Fin 64) :
    k0_pay7 x s (ix2 0 p) = s (ix2 0 p) + k0_pay3 x (ix2 0 p) := by
  pointwise [k0_pay7]

/-- The loss, from the two accumulators and the label distances. -/
theorem pay8_at (a s : Vec Ideal S1x64 .f32) (w : Vec Ideal S1024x64 .f32) :
    k0_pay8 a s w (ix2 0 0) = Ideal.div (∑ i : Fin 1024, ∑ p : Fin 64, max 0 (1 + w (ix2 i p) -
      Ideal.div ((∑ p : Fin 64, a (ix2 0 p)) - ∑ p : Fin 64, s (ix2 0 p)) (Ideal.ofBits .f32 0x48000000#32))) (Ideal.ofBits .f32 0x47800000#32) := by
  have h : k0_pay8 a s w (ix2 0 0) = (∑ i : Fin 1024, ∑ p : Fin 64, max (w (ix2 i p) +
      (1 - ((∑ x : Fin 1, ∑ p : Fin 64, a (ix2 0 p)) - ∑ x : Fin 1, ∑ p : Fin 64, s (ix2 0 p)) * Ideal.ofBits .f32 0x37000000#32)) 0) * Ideal.ofBits .f32 0x37800000#32 := by
    pointwise [k0_pay8]
  rw [h, mul_inv16, Fin.sum_univ_one, Fin.sum_univ_one, mul_inv17]
  simp only [hinge_eq]

end Cert.KernelIdeal.Hand

end
-- ==== Proof.Blocks.lean ====
module

public import proofs.«01_k».proof.Proof.Launch
public import proofs.«01_k».proof.Proof.Pure
public import Idealize.ShloMosaic.Lib.Claim
public import Idealize.ShloMosaic.Lib.StableHlo.RunRead
public import Idealize.ShloMosaic.Lib.Pointwise

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic Idealize.SL.Sem
open Idealize.ShloMosaic.StableHlo

variable (m : (ℓ : Loc nD τ sig) → Buf (Elt Ideal) ℓ) (c : Dev nD)

/-! The blocks that the grid's points read, as entries of the arguments. -/

/-- What the host's operations before the launch leave in a buffer. -/
theorem V_eq (b : Ref sig .tc) : V m c b = after hostOps0 (fun b => m (c, b)) (Proc.devRef .tc b) := by
  show after (List.flatten [hostOps0]) _ _ = _
  rw [List.flatten_cons, List.flatten_nil, List.append_nil]

/-- A list of operations runs as its first part and then the rest. -/
theorem after_parts (n : ℕ) (ops : List (HloOp τ sig (Elt Ideal))) (W : Valuation τ sig (Elt Ideal)) :
    after ops W = after (ops.drop n) (after (ops.take n) W) := by
  conv_lhs => rw [← List.take_append_drop n ops]
  generalize ops.take n = l
  induction l generalizing W with
  | nil => rfl
  | cons a l ih => exact ih _

/-- The feature map with its channels moved last and its cells in one row. -/
theorem V_v1 : V m c main_v1 = shapeCast S1024x64x128 (transpose S1024x8x8x128 [0, 2, 3, 1] (m ((c : Thread nD τ).loc main_arg2))
    transposes_S1024x128x8x8_S1024x8x8x128_0_2_3_1) shapeCasts_S1024x8x8x128_S1024x64x128 := by
  rw [V_eq]
  unfold hostOps0
  after_reads_simp
  rfl

/-- The labels, in rows of 128. -/
theorem V_v2 : V m c main_v2 = shapeCast S8x1x128 (m ((c : Thread nD τ).loc main_arg0)) shapeCasts_S1024_S8x1x128 := by
  rw [V_eq]
  unfold hostOps0
  after_reads_simp
  rfl

/-- The three arrays of means, transposed and set side by side. -/
theorem V_v6 : V m c main_v6 = concatenate S128x192 1 [⟨S128x64, transpose S128x64 [1, 0] (m ((c : Thread nD τ).loc main_arg3)) transposes_S64x128_S128x64_1_0⟩,
    ⟨S128x64, transpose S128x64 [1, 0] (m ((c : Thread nD τ).loc main_arg4)) transposes_S64x128_S128x64_1_0⟩,
    ⟨S128x64, transpose S128x64 [1, 0] (m ((c : Thread nD τ).loc main_arg5)) transposes_S64x128_S128x64_1_0⟩]
    concatenates_S128x64_S128x64_S128x64_S128x192_d1 := by
  rw [V_eq, after_parts 6 hostOps0]
  have h0 : after (List.take 6 hostOps0) (fun b => m (c, b)) (Proc.devRef .tc main_v3)
      = transpose S128x64 [1, 0] (m ((c : Thread nD τ).loc main_arg3)) transposes_S64x128_S128x64_1_0 := by
    unfold hostOps0; after_reads_simp
  have h1 : after (List.take 6 hostOps0) (fun b => m (c, b)) (Proc.devRef .tc main_v4)
      = transpose S128x64 [1, 0] (m ((c : Thread nD τ).loc main_arg4)) transposes_S64x128_S128x64_1_0 := by
    unfold hostOps0; after_reads_simp
  have h2 : after (List.take 6 hostOps0) (fun b => m (c, b)) (Proc.devRef .tc main_v5)
      = transpose S128x64 [1, 0] (m ((c : Thread nD τ).loc main_arg5)) transposes_S64x128_S128x64_1_0 := by
    unfold hostOps0; after_reads_simp
  rw [← h0, ← h1, ← h2]
  generalize after (List.take 6 hostOps0) (fun b => m (c, b)) = W
  unfold hostOps0
  after_reads_simp
  rfl

/-- The three mean embeddings, in rows. -/
theorem V_v10 : V m c main_v10 = concatenate S3x128 0 [⟨S1x128, broadcastInDim S1x128 ![1] bcast_S128_S1x128_1 (m ((c : Thread nD τ).loc main_arg8))⟩,
    ⟨S1x128, broadcastInDim S1x128 ![1] bcast_S128_S1x128_1 (m ((c : Thread nD τ).loc main_arg9))⟩,
    ⟨S1x128, broadcastInDim S1x128 ![1] bcast_S128_S1x128_1 (m ((c : Thread nD τ).loc main_arg10))⟩]
    concatenates_S1x128_S1x128_S1x128_S3x128_d0 := by
  rw [V_eq, after_parts 10 hostOps0]
  have h0 : after (List.take 10 hostOps0) (fun b => m (c, b)) (Proc.devRef .tc main_v7)
      = broadcastInDim S1x128 ![1] bcast_S128_S1x128_1 (m ((c : Thread nD τ).loc main_arg8)) := by
    unfold hostOps0; after_reads_simp
  have h1 : after (List.take 10 hostOps0) (fun b => m (c, b)) (Proc.devRef .tc main_v8)
      = broadcastInDim S1x128 ![1] bcast_S128_S1x128_1 (m ((c : Thread nD τ).loc main_arg9)) := by
    unfold hostOps0; after_reads_simp
  have h2 : after (List.take 10 hostOps0) (fun b => m (c, b)) (Proc.devRef .tc main_v9)
      = broadcastInDim S1x128 ![1] bcast_S128_S1x128_1 (m ((c : Thread nD τ).loc main_arg10)) := by
    unfold hostOps0; after_reads_simp
  rw [← h0, ← h1, ← h2]
  generalize after (List.take 10 hostOps0) (fun b => m (c, b)) = W
  unfold hostOps0
  after_reads_simp
  rfl

/-- The feature map in its new order, at an entry. -/
theorem v1_at (b : Fin 1024) (h w : Fin 8) (k : Fin 128) :
    V m c main_v1 (ix3 b ⟨(h : ℕ) * 8 + w, by omega⟩ k) = m ((c : Thread nD τ).loc main_arg2) (ix4 b k h w) := by
  rw [V_v1]
  pointwise

/-- A label, in its row. -/
theorem v2_at (n : Fin 8) (b : Fin 128) :
    V m c main_v2 (ix3 n 0 b) = m ((c : Thread nD τ).loc main_arg0) (ix1 ⟨(n : ℕ) * 128 + b, by omega⟩) := by
  rw [V_v2]
  pointwise

/-- A first mean. -/
theorem v6_at0 (k : Fin 128) (p : Fin 64) : V m c main_v6 (ix2 k ⟨p, by omega⟩) = m ((c : Thread nD τ).loc main_arg3) (ix2 p k) := by
  rw [V_v6]
  pointwise
/-- A second mean. -/
theorem v6_at1 (k : Fin 128) (p : Fin 64) : V m c main_v6 (ix2 k ⟨64 + p, by omega⟩) = m ((c : Thread nD τ).loc main_arg4) (ix2 p k) := by
  rw [V_v6]
  pointwise
/-- A third mean. -/
theorem v6_at2 (k : Fin 128) (p : Fin 64) : V m c main_v6 (ix2 k ⟨128 + p, by omega⟩) = m ((c : Thread nD τ).loc main_arg5) (ix2 p k) := by
  rw [V_v6]
  pointwise
  rw [dif_neg (by omega), dif_neg (by omega)]
  exact congrArg (fun q => m ((c : Thread nD τ).loc main_arg5) (ix2 q k)) (Fin.ext (show 128 + (p : ℕ) - 64 - 64 = p by omega))

/-- The three rows of mean embeddings. -/
theorem v10_at (k : Fin 128) : V m c main_v10 (ix2 0 k) = m ((c : Thread nD τ).loc main_arg8) (ix1 k)
    ∧ V m c main_v10 (ix2 1 k) = m ((c : Thread nD τ).loc main_arg9) (ix1 k) ∧ V m c main_v10 (ix2 2 k) = m ((c : Thread nD τ).loc main_arg10) (ix1 k) := by
  rw [V_v10]
  refine ⟨?_, ?_, ?_⟩ <;> pointwise

/-- Where the blocks of each point lie. -/
theorem idx (n : Fin 8) :
    win0_0.index (pt n) = ![(n : ℕ), 0, 0] ∧ win0_1.index (pt n) = ![0, (n : ℕ)] ∧ win0_2.index (pt n) = ![0, (n : ℕ)] ∧ win0_3.index (pt n) = ![(n : ℕ), 0, 0]
      ∧ win0_4.index (pt n) = ![(n : ℕ), 0] ∧ win0_5.index (pt n) = ![0, 0] ∧ win0_6.index (pt n) = ![0, 0] := by
  revert n
  decide +kernel

/-- A block of the feature map. -/
theorem fm_blk (n : Fin 8) (b : Fin 128) (h w : Fin 8) (k : Fin 128) :
    iblk m c 0 (pt n) (ix3 b ⟨(h : ℕ) * 8 + w, by omega⟩ k) = m ((c : Thread nD τ).loc main_arg2) (ix4 ⟨(n : ℕ) * 128 + b, by omega⟩ k h w) := by
  rw [← v1_at m c]
  blk_ext [iblk, idx n]
/-- A block of first centroid coordinates. -/
theorem cx_blk (n : Fin 8) (b : Fin 128) (p : Fin 64) :
    iblk m c 1 (pt n) (ix2 p b) = m ((c : Thread nD τ).loc main_arg6) (ix2 p ⟨(n : ℕ) * 128 + b, by omega⟩) := by
  rw [← V_main_arg6 m c]
  blk_ext [iblk, idx n]
/-- A block of second centroid coordinates. -/
theorem cy_blk (n : Fin 8) (b : Fin 128) (p : Fin 64) :
    iblk m c 2 (pt n) (ix2 p b) = m ((c : Thread nD τ).loc main_arg7) (ix2 p ⟨(n : ℕ) * 128 + b, by omega⟩) := by
  rw [← V_main_arg7 m c]
  blk_ext [iblk, idx n]
/-- A block of labels. -/
theorem lab_blk (n : Fin 8) (b : Fin 128) :
    iblk m c 3 (pt n) (ix3 0 0 b) = m ((c : Thread nD τ).loc main_arg0) (ix1 ⟨(n : ℕ) * 128 + b, by omega⟩) := by
  rw [← v2_at m c]
  blk_ext [iblk, idx n]
/-- A block of embeddings. -/
theorem emb_blk (n : Fin 8) (b k : Fin 128) :
    iblk m c 4 (pt n) (ix2 b k) = m ((c : Thread nD τ).loc main_arg1) (ix2 ⟨(n : ℕ) * 128 + b, by omega⟩ k) := by
  rw [← V_main_arg1 m c]
  blk_ext [iblk, idx n]
/-- The means, whole at every point. -/
theorem mn_blk (n : Fin 8) (k : Fin 128) (q : Fin 192) : iblk m c 5 (pt n) (ix2 k q) = V m c main_v6 (ix2 k q) := by
  blk_ext [iblk, idx n]
/-- The mean embeddings, whole at every point. -/
theorem me_blk (n : Fin 8) (k : Fin 3) (q : Fin 128) : iblk m c 6 (pt n) (ix2 k q) = V m c main_v10 (ix2 k q) := by
  blk_ext [iblk, idx n]

end Cert.KernelIdeal.Hand

end
-- ==== Proof.Spec.lean ====
module

public import proofs.«01_k».proof.Proof.Math

@[expose] public section

noncomputable section

namespace Cert.Hand

open Idealize.ShloMosaic

/-! The three results, written from the argument arrays alone. -/

variable (lab : Vec Ideal ⟨1, ![1024]⟩ .i32) (e : Vec Ideal ⟨2, ![1024, 128]⟩ .f32) (fm : Vec Ideal ⟨4, ![1024, 128, 8, 8]⟩ .f32)
variable (mb mm mn : Vec Ideal ⟨2, ![64, 128]⟩ .f32) (cx cy : Vec Ideal ⟨2, ![64, 1024]⟩ .i32) (eb em en : Vec Ideal ⟨1, ![128]⟩ .f32)

/-- The cell of the grid, along one axis, that a centroid coordinate lies in. -/
def cell (w : BitVec 32) : Fin 8 := ⟨w.toNat / 28 % 8, Nat.mod_lt _ (by decide)⟩

/-- The distance of row `i`'s embedding to a mean embedding. -/
def embDist (me : Vec Ideal ⟨1, ![128]⟩ .f32) (i : Fin 1024) : EReal := vdist (fun k => e (ix2 i k)) (fun k => me (ix1 k))

/-- The distance of row `i`'s feature vector at part `p` to a mean of that part. -/
def partDist (mu : Vec Ideal ⟨2, ![64, 128]⟩ .f32) (i : Fin 1024) (p : Fin 64) : EReal :=
  vdist (fun k => fm (ix4 i k (cell (cx (ix2 p i))) (cell (cy (ix2 p i))))) (fun k => mu (ix2 p k))

/-- The one of the three distances that row `i`'s label names. -/
def partSame (i : Fin 1024) (p : Fin 64) : EReal :=
  pick3 (lab (ix1 i)).toNat (partDist fm cx cy mb i p) (partDist fm cx cy mm i p) (partDist fm cx cy mn i p)

/-- The loss, from the distances `d` summed over the three means, and the label distances `s`. -/
def lossOf (d s : Fin 1024 → Fin 64 → EReal) : EReal :=
  Ideal.div (∑ i, ∑ p, max 0 (1 + s i p - Ideal.div ((∑ i, ∑ p, d i p) - ∑ i, ∑ p, s i p) (Ideal.ofBits .f32 0x48000000#32)))
    (Ideal.ofBits .f32 0x47800000#32)

/-- The sum of a part's three distances. -/
def partAll (i : Fin 1024) (p : Fin 64) : EReal :=
  partDist fm cx cy mb i p + partDist fm cx cy mm i p + partDist fm cx cy mn i p

/-- What the precondition says of the arguments: labels and centroids in range, features and means finite. -/
structure Ranges : Prop where
  lab_lt : ∀ i, (lab i).toNat < 3
  cx_lt : ∀ i, (cx i).toNat < 224
  cy_lt : ∀ i, (cy i).toNat < 224
  fm_fin : ∀ i, ∃ r : ℝ, fm i = r
  mb_fin : ∀ i, ∃ r : ℝ, mb i = r
  mm_fin : ∀ i, ∃ r : ℝ, mm i = r
  mn_fin : ∀ i, ∃ r : ℝ, mn i = r

/-- A word in range is the word of a number in range. -/
theorem word_fin (w : BitVec 32) (n : ℕ) (h : w.toNat < n) : w = BitVec.ofNat 32 ((⟨w.toNat, h⟩ : Fin n) : ℕ) := by simp

/-- In range, the cell is the quotient. -/
theorem cell_val (w : BitVec 32) (h : w.toNat < 224) : (cell w : ℕ) = w.toNat / 28 := by
  show w.toNat / 28 % 8 = _
  omega

/-- A sum over 1024 rows, block by block. -/
theorem sum_rows (f : Fin 1024 → EReal) : ∑ n : Fin 8, ∑ b : Fin 128, f ⟨(n : ℕ) * 128 + b, by omega⟩ = ∑ i, f i :=
  (Fin.sum_univ_tiles 8 128 rfl f).symm

/-- A sum over 65536 places, row by row. -/
theorem sum_places (f : Fin 1024 → Fin 64 → EReal) :
    ∑ x : Fin 65536, f ⟨(x : ℕ) / 64, by omega⟩ ⟨(x : ℕ) % 64, by omega⟩ = ∑ i, ∑ p, f i p := by
  rw [Fin.sum_univ_tiles 1024 64 rfl]
  refine Finset.sum_congr rfl fun i _ => Finset.sum_congr rfl fun p _ => ?_
  congr 1 <;> exact Fin.ext (by simp <;> omega)

/-- The loss, its label distances in one row. -/
theorem loss_flat (d s : Fin 1024 → Fin 64 → EReal) :
    Ideal.div (∑ x : Fin 65536, max 0 (1 + s ⟨(x : ℕ) / 64, by omega⟩ ⟨(x : ℕ) % 64, by omega⟩ -
        Ideal.div ((∑ i, ∑ p, d i p) - ∑ x : Fin 65536, s ⟨(x : ℕ) / 64, by omega⟩ ⟨(x : ℕ) % 64, by omega⟩) (Ideal.ofBits .f32 0x48000000#32)))
      (Ideal.ofBits .f32 0x47800000#32) = lossOf d s := by
  unfold lossOf
  rw [sum_places s, ← sum_places fun i p => max 0 (1 + s i p - Ideal.div ((∑ i, ∑ p, d i p) - ∑ i, ∑ p, s i p) (Ideal.ofBits .f32 0x48000000#32))]

end Cert.Hand

end
-- ==== Proof.Value.lean ====
module

public import proofs.«01_k».proof.Proof.Blocks
public import proofs.«01_k».proof.Proof.Spec
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen Cert.Hand
open Idealize.ShloMosaic.Pipeline (Dat)

variable (m : (ℓ : Loc nD τ sig) → Buf (Elt Ideal) ℓ) (c : Dev nD)

/-! The three arrays the launch leaves, from the argument arrays. -/

/-- The distance block of a point, at an entry. -/
theorem distAt_at (n : Fin 8) (b : Fin 128) (k : Fin 3) :
    distAt m c n (ix2 b k) = pick3 k
      (embDist (m ((c : Thread nD τ).loc main_arg1)) (m ((c : Thread nD τ).loc main_arg8)) ⟨(n : ℕ) * 128 + b, by omega⟩)
      (embDist (m ((c : Thread nD τ).loc main_arg1)) (m ((c : Thread nD τ).loc main_arg9)) ⟨(n : ℕ) * 128 + b, by omega⟩)
      (embDist (m ((c : Thread nD τ).loc main_arg1)) (m ((c : Thread nD τ).loc main_arg10)) ⟨(n : ℕ) * 128 + b, by omega⟩) := by
  unfold distAt
  rw [distB_at]
  simp only [emb_blk m c, me_blk m c, v10_at m c]
  rfl

/-- Row `i`'s three embedding distances. -/
def dist3 (i : Fin 1024) (k : ℕ) : EReal :=
  pick3 k (embDist (m ((c : Thread nD τ).loc main_arg1)) (m ((c : Thread nD τ).loc main_arg8)) i)
    (embDist (m ((c : Thread nD τ).loc main_arg1)) (m ((c : Thread nD τ).loc main_arg9)) i)
    (embDist (m ((c : Thread nD τ).loc main_arg1)) (m ((c : Thread nD τ).loc main_arg10)) i)

/-- The index block of a point, at an entry. -/
theorem valAt_at (n : Fin 8) (b : Fin 128) :
    valAt m c n (ix2 b 0) = amin3 (dist3 m c ⟨(n : ℕ) * 128 + b, by omega⟩ 0) (dist3 m c ⟨(n : ℕ) * 128 + b, by omega⟩ 1)
      (dist3 m c ⟨(n : ℕ) * 128 + b, by omega⟩ 2) := by
  unfold valAt
  rw [valB_at]
  exact congr (congr (congrArg amin3 (distAt_at m c n b 0)) (distAt_at m c n b 1)) (distAt_at m c n b 2)

/-- The distance block of a point. -/
theorem distAt_ix (n : Fin 8) (y : S128x3.Idx) :
    distAt m c n y = dist3 m c ⟨(n : ℕ) * 128 + (y 0 : ℕ), by have := (y 0).isLt; have : (y 0 : ℕ) < 128 := this; omega⟩ (y 1 : ℕ) := by
  have h : y = ix2 (y 0 : Fin 128) (y 1 : Fin 3) := funext fun a => by fin_cases a <;> rfl
  conv_lhs => rw [h]
  exact distAt_at m c n (y 0) (y 1)

/-- The index block of a point. -/
theorem valAt_ix (n : Fin 8) (y : S128x1.Idx) :
    valAt m c n y = (fun i => amin3 (dist3 m c i 0) (dist3 m c i 1) (dist3 m c i 2))
      ⟨(n : ℕ) * 128 + (y 0 : ℕ), by have := (y 0).isLt; have : (y 0 : ℕ) < 128 := this; omega⟩ := by
  have h : y = ix2 (y 0 : Fin 128) (0 : Fin 1) := funext fun a => by
    fin_cases a
    · rfl
    · exact Subsingleton.elim (α := Fin 1) _ _
  conv_lhs => rw [h]
  exact valAt_at m c n (y 0)

/-- The block a point's outputs go to. -/
def row (t : Fin cfg0.N) : Fin 8 := ⟨min t.val 7, by omega⟩

/-- Where the output blocks lie. -/
theorem idx_out : ∀ t : Fin cfg0.N, win0_7.index t = ![min t.val 7, 0] ∧ win0_8.index t = ![min t.val 7, 0] ∧ win0_9.index t = ![0, 0] :=
  (by decide +kernel : ∀ t : Fin grid0.N, _)

/-- The block a point reads is the block its outputs go to. -/
theorem pt_row (t : Fin cfg0.N) : pt t.val = pt (row t) := Fin.ext (by show min t.val 7 = min (min t.val 7) 7; omega)

/-- The array of distances. -/
theorem arr_7 : (dats m 0 c).arrAt 7 (cfgs 0).N = (fun y => dist3 m c (y 0) (y 1 : ℕ) : Vec Ideal S1024x3 .f32) := by
  refine (dats m 0 c).arrAt_eq_of_covers 7 _ (by decide +kernel) fun t hf y => ?_
  blk_simp
  rw [after_7]
  have h : distAt m c t.val = distAt m c (row t) := by unfold distAt; rw [pt_row]
  rw [h]
  refine (distAt_ix m c (row t) y).trans ?_
  have h0 : (⟨((row t : Fin 8) : ℕ) * 128 + (y 0 : ℕ), by have := (y 0).isLt; have : (y 0 : ℕ) < 128 := this; have := (row t).isLt; omega⟩ : Fin 1024) = (win0_7.blk t).view.emb y 0 := by
    refine Fin.ext ?_
    blk_simp [idx_out t]
    rfl
  have h1 : (y 1 : ℕ) = win0_7.index t 1 * 3 + (y 1 : ℕ) := by
    rw [(idx_out t).1]
    show (y 1 : ℕ) = 0 * 3 + (y 1 : ℕ)
    omega
  exact congr (congrArg (dist3 m c) h0) h1

/-- The array of indices. -/
theorem arr_8 : (dats m 0 c).arrAt 8 (cfgs 0).N
    = (fun y => amin3 (dist3 m c (y 0) 0) (dist3 m c (y 0) 1) (dist3 m c (y 0) 2) : Vec Ideal S1024x1 .i32) := by
  refine (dats m 0 c).arrAt_eq_of_covers 8 _ (by decide +kernel) fun t hf y => ?_
  blk_simp
  rw [after_8]
  have h : valAt m c t.val = valAt m c (row t) := by unfold valAt; rw [pt_row]
  rw [h]
  refine (valAt_ix m c (row t) y).trans ?_
  have h0 : (⟨((row t : Fin 8) : ℕ) * 128 + (y 0 : ℕ), by have := (y 0).isLt; have : (y 0 : ℕ) < 128 := this; have := (row t).isLt; omega⟩ : Fin 1024) = (win0_8.blk t).view.emb y 0 := by
    refine Fin.ext ?_
    blk_simp [idx_out t]
    rfl
  exact congrArg (fun i => amin3 (dist3 m c i 0) (dist3 m c i 1) (dist3 m c i 2)) h0

/-- The one entry of the loss. -/
theorem arr_9 : (dats m 0 c).arrAt 9 (cfgs 0).N = (lossAt m c : Vec Ideal S1x1 .f32) := by
  refine (dats m 0 c).arrAt_eq_of_covers 9 _ (by decide +kernel) fun t hf y => ?_
  blk_simp
  rw [after_9]
  refine congrArg (lossAt m c) ?_
  blk_ext [idx_out t]

end Cert.KernelIdeal.Hand

end
-- ==== Proof.KLoss.lean ====
module

public import proofs.«01_k».proof.Proof.Value

@[expose] public section

set_option maxRecDepth 16384

noncomputable section

namespace Cert.KernelIdeal.Hand

open Idealize.ShloMosaic Idealize.ShloMosaic.TcCoe Idealize.SL.Sem
open Cert.KernelIdeal Cert.KernelIdeal.Gen Cert.Hand

variable (m : (ℓ : Loc nD τ sig) → Buf (Elt Ideal) ℓ) (c : Dev nD)

/-! The loss that the last point stores, from the argument arrays. -/

/-- The label array. -/
abbrev aLab : Vec Ideal S1024 .i32 := m ((c : Thread nD τ).loc main_arg0)
/-- The feature map. -/
abbrev aFm : Vec Ideal S1024x128x8x8 .f32 := m ((c : Thread nD τ).loc main_arg2)
/-- The first table of part means. -/
abbrev aMb : Vec Ideal S64x128 .f32 := m ((c : Thread nD τ).loc main_arg3)
/-- The second table of part means. -/
abbrev aMm : Vec Ideal S64x128 .f32 := m ((c : Thread nD τ).loc main_arg4)
/-- The third table of part means. -/
abbrev aMn : Vec Ideal S64x128 .f32 := m ((c : Thread nD τ).loc main_arg5)
/-- The first centroid coordinates. -/
abbrev aCx : Vec Ideal S64x1024 .i32 := m ((c : Thread nD τ).loc main_arg6)
/-- The second centroid coordinates. -/
abbrev aCy : Vec Ideal S64x1024 .i32 := m ((c : Thread nD τ).loc main_arg7)

variable (h : Ranges (aLab m c) (aFm m c) (aMb m c) (aMm m c) (aMn m c) (aCx m c) (aCy m c))

/-- Row `b` of block `n`. -/
abbrev at8 (n : Fin 8) (b : Fin 128) : Fin 1024 := ⟨(n : ℕ) * 128 + b, by omega⟩

include h

/-- The feature vector that a block's part gathers. -/
theorem feat_at (n : Fin 8) (b : Fin 128) (k : Fin 128) (p : Fin 64) :
    k0_pay12 (F := Ideal) (iblk m c 1 (pt n)) (iblk m c 2 (pt n)) (iblk m c 0 (pt n)) (ix3 b k p)
      = aFm m c (ix4 (at8 n b) k (cell (aCx m c (ix2 p (at8 n b)))) (cell (aCy m c (ix2 p (at8 n b))))) := by
  have hx := h.cx_lt (ix2 p (at8 n b))
  have hy := h.cy_lt (ix2 p (at8 n b))
  refine (pay12_at _ _ _ b k p ⟨_, hx⟩ ⟨_, hy⟩ ((cx_blk m c n b p).trans (word_fin _ _ hx)) ((cy_blk m c n b p).trans (word_fin _ _ hy))).trans ?_
  refine Eq.trans ?_ (fm_blk m c n b (cell (aCx m c (ix2 p (at8 n b)))) (cell (aCy m c (ix2 p (at8 n b)))) k)
  refine congrArg (fun q => iblk m c 0 (pt n) (ix3 b q k)) (Fin.ext ?_)
  show _ = (cell _ : ℕ) * 8 + (cell _ : ℕ)
  rw [cell_val _ hx, cell_val _ hy]

/-- It is real. -/
theorem feat_fin (n : Fin 8) (b : Fin 128) (p : Fin 64) (k : Fin 128) :
    ∃ r : ℝ, k0_pay12 (F := Ideal) (iblk m c 1 (pt n)) (iblk m c 2 (pt n)) (iblk m c 0 (pt n)) (ix3 b k p) = r := by
  rw [feat_at m c h]
  exact h.fm_fin _

/-- The first distances of a block. -/
theorem e0At_at (n : Fin 8) (b : Fin 128) (p : Fin 64) :
    e0At m c n (ix2 b p) = partDist (aFm m c) (aCx m c) (aCy m c) (aMb m c) (at8 n b) p := by
  unfold e0At
  have hm : ∀ k, iblk m c 5 (pt n) (ix2 k ⟨p, by omega⟩) = aMb m c (ix2 p k) := fun k => (mn_blk m c n k _).trans (v6_at0 m c k p)
  rw [e0B_at _ _ _ _ b p (feat_fin m c h n b p) (fun k => by rw [hm]; exact h.mb_fin _)]
  exact congr (congrArg vdist (funext fun k => feat_at m c h n b k p)) (funext hm)

/-- The second distances of a block. -/
theorem e1At_at (n : Fin 8) (b : Fin 128) (p : Fin 64) :
    e1At m c n (ix2 b p) = partDist (aFm m c) (aCx m c) (aCy m c) (aMm m c) (at8 n b) p := by
  unfold e1At
  have hm : ∀ k, iblk m c 5 (pt n) (ix2 k ⟨64 + p, by omega⟩) = aMm m c (ix2 p k) := fun k => (mn_blk m c n k _).trans (v6_at1 m c k p)
  rw [e1B_at _ _ _ _ b p (feat_fin m c h n b p) (fun k => by rw [hm]; exact h.mm_fin _)]
  exact congr (congrArg vdist (funext fun k => feat_at m c h n b k p)) (funext hm)

/-- The third distances of a block. -/
theorem e2At_at (n : Fin 8) (b : Fin 128) (p : Fin 64) :
    e2At m c n (ix2 b p) = partDist (aFm m c) (aCx m c) (aCy m c) (aMn m c) (at8 n b) p := by
  unfold e2At
  have hm : ∀ k, iblk m c 5 (pt n) (ix2 k ⟨128 + p, by omega⟩) = aMn m c (ix2 p k) := fun k => (mn_blk m c n k _).trans (v6_at2 m c k p)
  rw [e2B_at _ _ _ _ b p (feat_fin m c h n b p) (fun k => by rw [hm]; exact h.mn_fin _)]
  exact congr (congrArg vdist (funext fun k => feat_at m c h n b k p)) (funext hm)

/-- The label distances of a block. -/
theorem sameAt_at (n : Fin 8) (b : Fin 128) (p : Fin 64) :
    sameAt m c n (ix2 b p) = partSame (aLab m c) (aFm m c) (aMb m c) (aMm m c) (aMn m c) (aCx m c) (aCy m c) (at8 n b) p := by
  have hl := h.lab_lt (ix1 (at8 n b))
  unfold sameAt
  refine (sameB_at _ _ _ _ _ b p ⟨_, hl⟩ ((lab_blk m c n b).trans (word_fin _ _ hl))).trans ?_
  exact congr (congr (congrArg (pick3 (aLab m c (ix1 (at8 n b))).toNat) (e0At_at m c h n b p)) (e1At_at m c h n b p)) (e2At_at m c h n b p)

/-- The label distances of all rows. -/
theorem sameAll_at (i : Fin 1024) (p : Fin 64) :
    sameAll m c (ix2 i p) = partSame (aLab m c) (aFm m c) (aMb m c) (aMm m c) (aMn m c) (aCx m c) (aCy m c) i p := by
  have e := sameAt_at m c h ⟨(i : ℕ) / 128, by omega⟩ ⟨(i : ℕ) % 128, by omega⟩ p
  have hi : at8 ⟨(i : ℕ) / 128, by omega⟩ ⟨(i : ℕ) % 128, by omega⟩ = i := Fin.ext (by show (i : ℕ) / 128 * 128 + (i : ℕ) % 128 = i; omega)
  rw [hi] at e
  exact e

omit h in
/-- The sums of distances after each point, by columns. -/
theorem accD_at (p : Fin 64) (n : ℕ) (hn : n < 8) : accD m c n (ix2 0 p)
    = ∑ t ∈ Finset.range (n + 1), ∑ b : Fin 128, (e0At m c t (ix2 b p) + e1At m c t (ix2 b p) + e2At m c t (ix2 b p)) := by
  induction n with
  | zero =>
    rw [Finset.sum_range_one]
    show k0_pay4 (F := Ideal) _ _ _ (ix2 0 p) = _
    rw [pay4_at, pay2_at]
  | succ n ih =>
    rw [Finset.sum_range_succ, ← ih (by omega)]
    show stepD _ _ _ _ _ (ix2 0 p) = _
    rw [stepD, if_neg (by omega), if_pos hn, pay6_at, pay2_at]

omit h in
/-- The sums of label distances after each point, by columns. -/
theorem accS_at (p : Fin 64) (n : ℕ) (hn : n < 8) :
    accS m c n (ix2 0 p) = ∑ t ∈ Finset.range (n + 1), ∑ b : Fin 128, sameAt m c t (ix2 b p) := by
  induction n with
  | zero =>
    rw [Finset.sum_range_one]
    show k0_pay5 (F := Ideal) _ (ix2 0 p) = _
    rw [pay5_at, pay3_at]
  | succ n ih =>
    rw [Finset.sum_range_succ, ← ih (by omega)]
    show stepS _ _ _ (ix2 0 p) = _
    rw [stepS, if_neg (by omega), if_pos hn, pay7_at, pay3_at]

omit h in
/-- Column sums over the blocks' rows are sums over all rows. -/
theorem sum_cols (f : Fin 1024 → Fin 64 → EReal) (g : ℕ → Fin 128 → Fin 64 → EReal) (hg : ∀ (n : Fin 8) b p, g n b p = f (at8 n b) p) :
    ∑ p : Fin 64, ∑ t ∈ Finset.range (7 + 1), ∑ b : Fin 128, g t b p = ∑ i, ∑ p, f i p := by
  rw [← sum_rows (fun i => ∑ p, f i p), Finset.sum_comm, Finset.sum_range]
  refine Finset.sum_congr rfl fun n _ => ?_
  rw [Finset.sum_comm]
  exact Finset.sum_congr rfl fun b _ => Finset.sum_congr rfl fun p _ => hg n b p

/-- The loss. -/
theorem lossAt_at : lossAt m c (ix2 0 0) = lossOf (partAll (aFm m c) (aMb m c) (aMm m c) (aMn m c) (aCx m c) (aCy m c))
    (partSame (aLab m c) (aFm m c) (aMb m c) (aMm m c) (aMn m c) (aCx m c) (aCy m c)) := by
  have hD : ∑ p : Fin 64, accD m c 7 (ix2 0 p) = ∑ i, ∑ p, partAll (aFm m c) (aMb m c) (aMm m c) (aMn m c) (aCx m c) (aCy m c) i p := by
    simp only [accD_at m c _ 7 (by decide)]
    exact sum_cols _ (fun t b p => e0At m c t (ix2 b p) + e1At m c t (ix2 b p) + e2At m c t (ix2 b p)) fun n b p => by
      rw [e0At_at m c h, e1At_at m c h, e2At_at m c h]; rfl
  have hS : ∑ p : Fin 64, accS m c 7 (ix2 0 p) = ∑ i, ∑ p, partSame (aLab m c) (aFm m c) (aMb m c) (aMm m c) (aMn m c) (aCx m c) (aCy m c) i p := by
    simp only [accS_at m c _ 7 (by decide)]
    exact sum_cols _ (fun t b p => sameAt m c t (ix2 b p)) fun n b p => sameAt_at m c h n b p
  unfold lossAt
  rw [pay8_at, hD, hS]
  simp only [sameAll_at m c h]
  rfl

end Cert.KernelIdeal.Hand

end
-- ==== Proof.RefRun.lean ====
module

public import proofs.«01_k».proof.Proof.Gen.ReferenceIdeal
public import Idealize.ShloMosaic.Lib.StableHlo.RunHlo
public import Idealize.ShloMosaic.Lib.Claim
public import Idealize.ShloMosaic.Lib.StableHlo.RunRead
public import Idealize.ShloMosaic.Init

@[expose] public section

set_option maxRecDepth 16384

noncomputable section

namespace Cert.ReferenceIdeal.Hand

open Cert.ReferenceIdeal
open Idealize.ShloMosaic Idealize.ShloMosaic.TcCoe Idealize.ShloMosaic.Tactic Idealize.SL.Sem

variable {F : FTy → Type} [FloatOps F]

open Idealize.ShloMosaic.StableHlo

/-- A program followed by the operations `k` is the operations `ops`. -/
def Line (p : Prog (TpuEff nD τ sig (Elt F) (Pipeline.Sig Λ₀ (Fin 0) fun p => (pcfgs (F := F) p).Adm) .tc) PUnit)
    (k ops : List (HloOp τ sig (Elt F))) : Prop := (p >>= fun _ => seq k) = seq ops

/-- The empty program adds no operation. -/
theorem Line.nil (k : List (HloOp τ sig (Elt F))) : Line (F := F) (pure ⟨⟩) k k := rfl
/-- One host operation adds itself. -/
theorem Line.one (op : HloOp τ sig (Elt F)) (k : List (HloOp τ sig (Elt F))) :
    Line (F := F) (hlo rfl op fun _ => .ret (⟨⟩ : PUnit)) k (op :: k) := rfl
/-- Of two programs in turn, the operations of the first come before those of the second. -/
theorem Line.bind {p q : Prog (TpuEff nD τ sig (Elt F) (Pipeline.Sig Λ₀ (Fin 0) fun p => (pcfgs (F := F) p).Adm) .tc) PUnit}
    {k o₁ o₂ : List (HloOp τ sig (Elt F))} (hq : Line q k o₁) (hp : Line p o₁ o₂) : Line (p >>= fun _ => q) k o₂ := by
  unfold Line at *
  rw [← hp, ← hq]
  exact Prog.bind_assoc _ _ _

set_option maxHeartbeats 4000000 in
/-- The reference's host operations, in order: the list its program is. -/
noncomputable def refLine (d : Dev nD) : { ops : List (HloOp τ sig (Elt F)) // Line (main (F := F) d) [] ops } := by
  apply Subtype.mk
  repeat (first | exact Line.nil _ | exact Line.one _ _ | apply Line.bind)

/-- The same list, at no device. -/
noncomputable def refOps : List (HloOp τ sig (Elt F)) := (refLine (F := F) 0).1

/-- The reference's program is its list of operations, on every device. -/
theorem main_eq (d : Dev nD) : IsSeq (main (F := F) d) (refOps (F := F)) := by
  have h := (refLine (F := F) d).2
  unfold Line at h
  have e : (main (F := F) d >>= fun _ => seq []) = main (F := F) d := Prog.bind_pure _
  exact e.symm.trans h

set_option maxHeartbeats 4000000 in
/-- The operations read and write the program's own buffers only. -/
theorem refOps_sub : (refOps (F := F)).Forall fun op => op.bufs ⊆ tcRefs τ sig := by
  unfold refOps refLine
  simp only [List.Forall]
  repeat' (first | exact trivial | apply And.intro)
  all_goals first | exact unary_bufs_sub _ _ _ | exact binary_bufs_sub _ _ _ _ | exact nullary_bufs_sub _ _ | exact reshape_bufs_sub _ _ _ _ | simp

set_option maxHeartbeats 4000000 in
/-- No operation allocates. -/
theorem refOps_fresh : ∀ op ∈ refOps (F := F), op.fresh = ∅ := by
  unfold refOps refLine
  intro _ h
  repeat (cases h with | head => rfl | tail _ h => ?_)
  exact nomatch h

/-- The reference runs, and every buffer ends with what its operations, in order, leave in it. -/
theorem run (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = after refOps (launchContents m d) (Proc.devRef .tc b)) :=
  run_hlo defs main main_eq (by decide) (by decide) refOps_sub refOps_fresh m ρ

end Cert.ReferenceIdeal.Hand

end
-- ==== Proof.RefRead.lean ====
module

public import proofs.«01_k».proof.Proof.RefRun
public import Idealize.ShloMosaic.Lib.Quiescent

@[expose] public section

set_option maxRecDepth 16384

noncomputable section

namespace Cert.ReferenceIdeal.Hand

open Cert.ReferenceIdeal
open Idealize.ShloMosaic Idealize.ShloMosaic.TcCoe Idealize.ShloMosaic.Tactic Idealize.SL.Sem
open Idealize.ShloMosaic.StableHlo
open Cert.ReferenceIdeal.Facts₀ Cert.ReferenceIdeal.Facts

variable {F : FTy → Type} [FloatOps F]

/-! What each result of the reference is, as a function of the argument arrays, in four stages. -/

/-- The distance of every embedding to one mean embedding. -/
def refCol (e : Vec F S1024x128 .f32) (me : Vec F S128 .f32) : Vec F S1024x1 .f32 :=
  let de : Vec F S1024x1x128 .f32 := subf (broadcastInDim S1024x1x128 ![0, 2] bcast_S1024x128_S1024x1x128_0_2 e)
    (broadcastInDim S1024x1x128 ![0, 1, 2] bcast_S1x1x128_S1024x1x128_0_1_2
      (broadcastInDim S1x1x128 ![1, 2] bcast_S1x128_S1x1x128_1_2 (shapeCast S1x128 me shapeCasts_S128_S1x128)))
  Host.sqrt (Host.reduceAdd (mulf de de) (constant S_ .f32 0x00000000#32) reducesTo_S1024x1x128_S1024x1_d2 h_S_)

/-- The three columns of distances side by side: the first result. -/
def refDist (e : Vec F S1024x128 .f32) (mb mm mn : Vec F S128 .f32) : Vec F S1024x3x1 .f32 :=
  concatenate S1024x3x1 1
    [⟨S1024x1x1, broadcastInDim S1024x1x1 ![0, 2] bcast_S1024x1_S1024x1x1_0_2 (refCol e mb)⟩,
     ⟨S1024x1x1, broadcastInDim S1024x1x1 ![0, 2] bcast_S1024x1_S1024x1x1_0_2 (refCol e mm)⟩,
     ⟨S1024x1x1, broadcastInDim S1024x1x1 ![0, 2] bcast_S1024x1_S1024x1x1_0_2 (refCol e mn)⟩]
    concatenates_S1024x1x1_S1024x1x1_S1024x1x1_S1024x3x1_d1

/-- The place of the least distance in each row: the second result. -/
def refVal (dist : Vec F S1024x3x1 .f32) : Vec F S1024 .i32 :=
  shapeCast S1024 (fun j => (Host.argReduce reducer_argmin_f32_i32 dist (iotaInDim S1024x3x1 32 1)
    (constant S_ .f32 0x7F800000#32) (constantI S_ 32 0#32) reducesTo_S1024x3x1_S1024x1_d1 h_S_ j).2) shapeCasts_S1024x1_S1024

/-- A centroid coordinate divided by 28 and rounded down. -/
def refFloor (x : Vec F S64x1024 .i32) : Vec F S64x1024 .i32 :=
  let d : Vec F S64x1024 .i32 := broadcastInDim S64x1024 ![] bcast_S_S64x1024 (constantI S_ 32 28#32)
  let q : Vec F S64x1024 .i32 := Host.divsi x d
  select (andi (cmpi .ne (signi x) (broadcastInDim S64x1024 ![] bcast_S_S64x1024 (signi (constantI S_ 32 28#32))))
      (cmpi .ne (Host.remsi x d) (broadcastInDim S64x1024 ![] bcast_S_S64x1024 (constantI S_ 32 0#32))))
    (subi q (broadcastInDim S64x1024 ![] bcast_S_S64x1024 (constantI S_ 32 1#32))) q

/-- A grid coordinate, with a negative one counted from the end. -/
def refWrap (x : Vec F S64x1024 .i32) : Vec F S1024x64 .i32 :=
  let t : Vec F S1024x64 .i32 := transpose S1024x64 [1, 0] (refFloor (F := F) x) transposes_S64x1024_S1024x64_1_0
  select (cmpi .slt t (broadcastInDim S1024x64 ![] bcast_S_S1024x64 (constantI S_ 32 0#32)))
    (addi t (broadcastInDim S1024x64 ![] bcast_S_S1024x64 (constantI S_ 32 8#32))) t

/-- The row number of every row, with a negative one counted from the end. -/
def refRow : Vec F S1024x1 .i32 :=
  let t : Vec F S1024x1 .i32 := broadcastInDim S1024x1 ![0] bcast_S1024_S1024x1_0 (iotaInDim S1024 32 0)
  select (cmpi .slt t (broadcastInDim S1024x1 ![] bcast_S_S1024x1 (constantI S_ 32 0#32)))
    (addi t (broadcastInDim S1024x1 ![] bcast_S_S1024x1 (constantI S_ 32 1024#32))) t

/-- The place of every part in the feature maps: row, and two grid coordinates. -/
def refPlace (cx cy : Vec F S64x1024 .i32) : Vec F S1024x64x3 .i32 :=
  concatenate S1024x64x3 2
    [⟨S1024x64x1, broadcastInDim S1024x64x1 ![0, 1] bcast_S1024x64_S1024x64x1_0_1
       (broadcastInDim S1024x64 ![0, 1] bcast_S1024x1_S1024x64_0_1 (refRow (F := F)))⟩,
     ⟨S1024x64x1, broadcastInDim S1024x64x1 ![0, 1] bcast_S1024x64_S1024x64x1_0_1 (refWrap (F := F) cx)⟩,
     ⟨S1024x64x1, broadcastInDim S1024x64x1 ![0, 1] bcast_S1024x64_S1024x64x1_0_1 (refWrap (F := F) cy)⟩]
    concatenates_S1024x64x1_S1024x64x1_S1024x64x1_S1024x64x3_d2

/-- The feature vector at every part's place. -/
def refPe (fm : Vec F S1024x128x8x8 .f32) (cx cy : Vec F S64x1024 .i32) : Vec F S1024x64x128 .f32 :=
  Host.gather gather_S1024x8x8x128_S1024x64x3_S1024x64x128_2_012_n_n_012_2_111128
    (transpose S1024x8x8x128 [0, 2, 3, 1] fm transposes_S1024x128x8x8_S1024x8x8x128_0_2_3_1) (refPlace (F := F) cx cy)

/-- The three tables of part means, one above the other. -/
def refMeans (mb mm mn : Vec F S64x128 .f32) : Vec F S3x64x128 .f32 :=
  concatenate S3x64x128 0
    [⟨S1x64x128, broadcastInDim S1x64x128 ![1, 2] bcast_S64x128_S1x64x128_1_2 mb⟩,
     ⟨S1x64x128, broadcastInDim S1x64x128 ![1, 2] bcast_S64x128_S1x64x128_1_2 mm⟩,
     ⟨S1x64x128, broadcastInDim S1x64x128 ![1, 2] bcast_S64x128_S1x64x128_1_2 mn⟩]
    concatenates_S1x64x128_S1x64x128_S1x64x128_S3x64x128_d0

/-- The distance of every part's feature vector to the three means of that part. -/
def refDis (pe : Vec F S1024x64x128 .f32) (mu : Vec F S3x64x128 .f32) : Vec F S1024x3x64 .f32 :=
  let de : Vec F S1024x3x64x128 .f32 := subf
    (broadcastInDim S1024x3x64x128 ![0, 1, 2, 3] bcast_S1024x1x64x128_S1024x3x64x128_0_1_2_3
      (broadcastInDim S1024x1x64x128 ![0, 2, 3] bcast_S1024x64x128_S1024x1x64x128_0_2_3 pe))
    (broadcastInDim S1024x3x64x128 ![0, 1, 2, 3] bcast_S1x3x64x128_S1024x3x64x128_0_1_2_3
      (broadcastInDim S1x3x64x128 ![1, 2, 3] bcast_S3x64x128_S1x3x64x128_1_2_3 mu))
  Host.sqrt (Host.reduceAdd (mulf de de) (constant S_ .f32 0x00000000#32) reducesTo_S1024x3x64x128_S1024x3x64_d3 h_S_)

/-- The label of every row, once for each part. -/
def refLab (lab : Vec F S1024 .i32) : Vec F S1024x1x64 .i32 :=
  broadcastInDim S1024x1x64 ![0, 1, 2] bcast_S1024x1x1_S1024x1x64_0_1_2
    (broadcastInDim S1024x1x1 ![0] bcast_S1024_S1024x1x1_0 lab)

/-- The labels as places along the axis of the three means, a negative one counted from the end. -/
def refLabAt (lab : Vec F S1024 .i32) : Vec F S1024x1x64x1 .i32 :=
  let l : Vec F S1024x1x64 .i32 := refLab (F := F) lab
  shapeCast S1024x1x64x1 (select (cmpi .slt l (broadcastInDim S1024x1x64 ![] bcast_S_S1024x1x64 (constantI S_ 32 0#32)))
    (addi l (broadcastInDim S1024x1x64 ![] bcast_S_S1024x1x64 (constantI S_ 32 3#32))) l) shapeCasts_S1024x1x64_S1024x1x64x1

/-- Whether every label names one of the three means. -/
def refLabOk (lab : Vec F S1024 .i32) : Vec F S1024x1x64 .i1 :=
  Host.reduce IntOp.andi
    (andi (cmpi .sge (refLabAt (F := F) lab) (broadcastInDim S1024x1x64x1 ![] bcast_S_S1024x1x64x1 (constantI S_ 32 0#32)))
      (cmpi .sle (refLabAt (F := F) lab) (broadcastInDim S1024x1x64x1 ![0, 1, 2, 3] bcast_S1x1x1x1_S1024x1x64x1_0_1_2_3
        (broadcastInDim S1x1x1x1 ![3] bcast_S1_S1x1x1x1_3 (constantI S1 32 2#32)))))
    (constantI S_ 1 1#1) reducesTo_S1024x1x64x1_S1024x1x64_d3 h_S_

/-- The distance of every part to the mean that its row's label names. -/
def refPick (dis : Vec F S1024x3x64 .f32) (lab : Vec F S1024 .i32) : Vec F S1024x1x64 .f32 :=
  select (refLabOk (F := F) lab)
    (Host.gather gather_S1024x3x64_S1024x1x64x1_S1024x1x64_n_1_02_02_1_3_111 dis (refLabAt (F := F) lab))
    (broadcastInDim S1024x1x64 ![] bcast_S_S1024x1x64 (constant S_ .f32 0x7FC00000#32))

/-- The same distances in one row. -/
def refSame (dis : Vec F S1024x3x64 .f32) (lab : Vec F S1024 .i32) : Vec F S65536 .f32 :=
  shapeCast S65536 (refPick (F := F) dis lab) shapeCasts_S1024x1x64_S65536

/-- The margin loss: the third result. -/
def refLoss (dis : Vec F S1024x3x64 .f32) (same : Vec F S65536 .f32) : Vec F S_ .f32 :=
  let diff : Vec F S_ .f32 := Host.divf (subf (Host.reduceAdd dis (constant S_ .f32 0x00000000#32) reducesTo_S1024x3x64_S_d0_1_2 h_S_)
    (Host.reduceAdd same (constant S_ .f32 0x00000000#32) reducesTo_S65536_S_d0 h_S_)) (constant S_ .f32 0x48000000#32)
  Host.divf (Host.reduceAdd
    (maximumf (broadcastInDim S65536 ![] bcast_S_S65536 (constant S_ .f32 0x00000000#32))
      (subf (addf (broadcastInDim S65536 ![] bcast_S_S65536 (constant S_ .f32 0x3F800000#32)) same)
        (broadcastInDim S65536 ![] bcast_S_S65536 diff)))
    (constant S_ .f32 0x00000000#32) reducesTo_S65536_S_d0 h_S_) (constant S_ .f32 0x47800000#32)

/-- The reference leaves every argument array as it found it. -/
theorem ref_args (V : Valuation τ sig (Elt F)) :
    after refOps V (Proc.devRef .tc main_arg0) = V (Proc.devRef .tc main_arg0) ∧
    after refOps V (Proc.devRef .tc main_arg1) = V (Proc.devRef .tc main_arg1) ∧
    after refOps V (Proc.devRef .tc main_arg2) = V (Proc.devRef .tc main_arg2) ∧
    after refOps V (Proc.devRef .tc main_arg3) = V (Proc.devRef .tc main_arg3) ∧
    after refOps V (Proc.devRef .tc main_arg4) = V (Proc.devRef .tc main_arg4) ∧
    after refOps V (Proc.devRef .tc main_arg5) = V (Proc.devRef .tc main_arg5) ∧
    after refOps V (Proc.devRef .tc main_arg6) = V (Proc.devRef .tc main_arg6) ∧
    after refOps V (Proc.devRef .tc main_arg7) = V (Proc.devRef .tc main_arg7) ∧
    after refOps V (Proc.devRef .tc main_arg8) = V (Proc.devRef .tc main_arg8) ∧
    after refOps V (Proc.devRef .tc main_arg9) = V (Proc.devRef .tc main_arg9) ∧
    after refOps V (Proc.devRef .tc main_arg10) = V (Proc.devRef .tc main_arg10) := by
  unfold refOps refLine
  refine ⟨?_, ?_, ?_, ?_, ?_, ?_, ?_, ?_, ?_, ?_, ?_⟩ <;> after_reads_simp

/-- The contents after the first part of the line, then the rest of it. -/
theorem after_split (n : ℕ) (ops : List (HloOp τ sig (Elt F))) (V : Valuation τ sig (Elt F)) :
    after ops V = after (ops.drop n) (after (ops.take n) V) := by
  conv_lhs => rw [← List.take_append_drop n ops]
  generalize ops.take n = l
  generalize ops.drop n = l'
  induction l generalizing V with
  | nil => rfl
  | cons a l ih => exact ih _

/-- The first result is `refDist` of the argument arrays. -/
theorem ref_v27 (V : Valuation τ sig (Elt F)) :
    after refOps V (Proc.devRef .tc main_v27) = refDist (V (Proc.devRef .tc main_arg1)) (V (Proc.devRef .tc main_arg8))
      (V (Proc.devRef .tc main_arg9)) (V (Proc.devRef .tc main_arg10)) := by
  rw [after_split 30 refOps V]
  have h0 : after (List.take 30 refOps) V (Proc.devRef .tc main_v24) = broadcastInDim S1024x1x1 ![0, 2] bcast_S1024x1_S1024x1x1_0_2
      (refCol (V (Proc.devRef .tc main_arg1)) (V (Proc.devRef .tc main_arg8))) := by
    unfold refOps refLine; after_reads_simp; rfl
  have h1 : after (List.take 30 refOps) V (Proc.devRef .tc main_v25) = broadcastInDim S1024x1x1 ![0, 2] bcast_S1024x1_S1024x1x1_0_2
      (refCol (V (Proc.devRef .tc main_arg1)) (V (Proc.devRef .tc main_arg9))) := by
    unfold refOps refLine; after_reads_simp; rfl
  have h2 : after (List.take 30 refOps) V (Proc.devRef .tc main_v26) = broadcastInDim S1024x1x1 ![0, 2] bcast_S1024x1_S1024x1x1_0_2
      (refCol (V (Proc.devRef .tc main_arg1)) (V (Proc.devRef .tc main_arg10))) := by
    unfold refOps refLine; after_reads_simp; rfl
  unfold refDist
  rw [← h0, ← h1, ← h2]
  generalize after (List.take 30 refOps) V = W
  unfold refOps refLine
  after_reads_simp
  rfl

/-- The second result is `refVal` of the first. -/
theorem ref_v29 (V : Valuation τ sig (Elt F)) :
    after refOps V (Proc.devRef .tc main_v29) = refVal (F := F) (after refOps V (Proc.devRef .tc main_v27)) := by
  rw [after_split 31 refOps V]
  generalize after (List.take 31 refOps) V = W
  unfold refOps refLine
  after_reads_simp
  rfl

/-- The places of the parts are `refPlace` of the centroids. -/
theorem ref_v56 (V : Valuation τ sig (Elt F)) :
    after refOps V (Proc.devRef .tc main_v56) = refPlace (F := F) (V (Proc.devRef .tc main_arg6)) (V (Proc.devRef .tc main_arg7)) := by
  rw [after_split 103 refOps V]
  have h0 : after (List.take 103 refOps) V (Proc.devRef .tc main_v53) = broadcastInDim S1024x64x1 ![0, 1] bcast_S1024x64_S1024x64x1_0_1
       (broadcastInDim S1024x64 ![0, 1] bcast_S1024x1_S1024x64_0_1 (refRow (F := F))) := by
    unfold refOps refLine; after_reads_simp; rfl
  have h1 : after (List.take 103 refOps) V (Proc.devRef .tc main_v54) = broadcastInDim S1024x64x1 ![0, 1] bcast_S1024x64_S1024x64x1_0_1
      (refWrap (F := F) (V (Proc.devRef .tc main_arg6))) := by
    unfold refOps refLine; after_reads_simp; rfl
  have h2 : after (List.take 103 refOps) V (Proc.devRef .tc main_v55) = broadcastInDim S1024x64x1 ![0, 1] bcast_S1024x64_S1024x64x1_0_1
      (refWrap (F := F) (V (Proc.devRef .tc main_arg7))) := by
    unfold refOps refLine; after_reads_simp; rfl
  unfold refPlace
  rw [← h0, ← h1, ← h2]
  generalize after (List.take 103 refOps) V = W
  unfold refOps refLine
  after_reads_simp
  rfl

/-- The feature vectors of the parts are `refPe` of the feature maps and the centroids. -/
theorem ref_v57 (V : Valuation τ sig (Elt F)) :
    after refOps V (Proc.devRef .tc main_v57) = refPe (F := F) (V (Proc.devRef .tc main_arg2)) (V (Proc.devRef .tc main_arg6))
      (V (Proc.devRef .tc main_arg7)) := by
  unfold refPe
  rw [← ref_v56 V, after_split 104 refOps V]
  have h0 : after (List.take 104 refOps) V (Proc.devRef .tc main_v34) =
      transpose S1024x8x8x128 [0, 2, 3, 1] (V (Proc.devRef .tc main_arg2)) transposes_S1024x128x8x8_S1024x8x8x128_0_2_3_1 := by
    unfold refOps refLine; after_reads_simp
  rw [← h0]
  generalize after (List.take 104 refOps) V = W
  unfold refOps refLine
  after_reads_simp

/-- The table of means is `refMeans` of the three argument tables. -/
theorem ref_v61 (V : Valuation τ sig (Elt F)) :
    after refOps V (Proc.devRef .tc main_v61) = refMeans (V (Proc.devRef .tc main_arg3)) (V (Proc.devRef .tc main_arg4))
      (V (Proc.devRef .tc main_arg5)) := by
  rw [after_split 108 refOps V]
  have h0 : after (List.take 108 refOps) V (Proc.devRef .tc main_v58) =
      broadcastInDim S1x64x128 ![1, 2] bcast_S64x128_S1x64x128_1_2 (V (Proc.devRef .tc main_arg3)) := by
    unfold refOps refLine; after_reads_simp
  have h1 : after (List.take 108 refOps) V (Proc.devRef .tc main_v59) =
      broadcastInDim S1x64x128 ![1, 2] bcast_S64x128_S1x64x128_1_2 (V (Proc.devRef .tc main_arg4)) := by
    unfold refOps refLine; after_reads_simp
  have h2 : after (List.take 108 refOps) V (Proc.devRef .tc main_v60) =
      broadcastInDim S1x64x128 ![1, 2] bcast_S64x128_S1x64x128_1_2 (V (Proc.devRef .tc main_arg5)) := by
    unfold refOps refLine; after_reads_simp
  unfold refMeans
  rw [← h0, ← h1, ← h2]
  generalize after (List.take 108 refOps) V = W
  unfold refOps refLine
  after_reads_simp
  rfl

/-- The distances of the parts are `refDis` of their feature vectors and the means. -/
theorem ref_v69 (V : Valuation τ sig (Elt F)) :
    after refOps V (Proc.devRef .tc main_v69) =
      refDis (after refOps V (Proc.devRef .tc main_v57)) (after refOps V (Proc.devRef .tc main_v61)) := by
  rw [after_split 109 refOps V]
  generalize after (List.take 109 refOps) V = W
  unfold refOps refLine
  after_reads_simp
  rfl

/-- The labels, as places, are `refLabAt` of the argument. -/
theorem ref_lab_at (V : Valuation τ sig (Elt F)) :
    after refOps V (Proc.devRef .tc main_call3_v5) = refLabAt (F := F) (V (Proc.devRef .tc main_arg0)) := by
  have h0 : V (Proc.devRef .tc main_arg0) = after (List.take 118 refOps) V (Proc.devRef .tc main_arg0) := by
    unfold refOps refLine; after_reads_simp
  rw [h0, after_split 118 refOps V]
  generalize after (List.take 118 refOps) V = W
  unfold refOps refLine
  after_reads_simp
  rfl

seal Host.reduce in
/-- Whether the labels name a mean is `refLabOk` of the argument. -/
theorem ref_lab_ok (V : Valuation τ sig (Elt F)) :
    after refOps V (Proc.devRef .tc main_call3_v12) = refLabOk (F := F) (V (Proc.devRef .tc main_arg0)) := by
  have h1 := ref_lab_at V
  unfold refLabOk
  rw [← h1, after_split 128 refOps V]
  generalize after (List.take 128 refOps) V = W
  unfold refOps refLine
  after_reads_simp
  rfl

/-- The distances to the labelled means, as picked out. -/
theorem ref_v72 (V : Valuation τ sig (Elt F)) :
    after refOps V (Proc.devRef .tc main_v72) =
      refPick (F := F) (after refOps V (Proc.devRef .tc main_v69)) (V (Proc.devRef .tc main_arg0)) := by
  have h1 := ref_lab_at V
  have h2 := ref_lab_ok V
  unfold refPick
  rw [← h1, ← h2, after_split 138 refOps V]
  generalize after (List.take 138 refOps) V = W
  unfold refOps refLine
  after_reads_simp
  rfl

/-- The distances to the labelled means are `refSame` of all distances and the labels. -/
theorem ref_v73 (V : Valuation τ sig (Elt F)) :
    after refOps V (Proc.devRef .tc main_v73) =
      refSame (F := F) (after refOps V (Proc.devRef .tc main_v69)) (V (Proc.devRef .tc main_arg0)) := by
  unfold refSame
  rw [← ref_v72 V, after_split 142 refOps V]
  generalize after (List.take 142 refOps) V = W
  unfold refOps refLine
  after_reads_simp
  rfl

/-- The third result is `refLoss` of all distances and those to the labelled means. -/
theorem ref_v85 (V : Valuation τ sig (Elt F)) :
    after refOps V (Proc.devRef .tc main_v85) =
      refLoss (after refOps V (Proc.devRef .tc main_v69)) (after refOps V (Proc.devRef .tc main_v73)) := by
  rw [after_split 143 refOps V]
  generalize after (List.take 143 refOps) V = W
  unfold refOps refLine
  after_reads_simp
  unfold refLoss
  with_reducible rfl

end Cert.ReferenceIdeal.Hand

end
-- ==== Proof.RefPure.lean ====
module

public import proofs.«01_k».proof.Proof.RefRead
public import proofs.«01_k».proof.Proof.Math
public import Idealize.ShloMosaic.Lib.Pointwise
public import Idealize.ShloMosaic.Lib.WordArith
public import Idealize.ShloMosaic.Lib.StableHlo.Predicate
public import Idealize.ShloMosaic.PureOps.Ideal.Laws

@[expose] public section

set_option maxRecDepth 16384

noncomputable section

namespace Cert.ReferenceIdeal.Hand

open Cert.ReferenceIdeal Cert.Hand
open Idealize.ShloMosaic Idealize.ShloMosaic.TcCoe Idealize.ShloMosaic.Tactic Idealize.SL.Sem
open Cert.ReferenceIdeal.Facts₀ Cert.ReferenceIdeal.Facts

/-! The stages of the reference, read at one entry. -/

/-- The distance of an embedding to one mean embedding, at a row. -/
theorem refCol_at (e : Vec Ideal S1024x128 .f32) (me : Vec Ideal S128 .f32) (i : Fin 1024) (z : Fin 1) :
    refCol e me (ix2 i z) = Ideal.sqrt (∑ c : Fin 128, (e (ix2 i c) - me (ix1 c)) * (e (ix2 i c) - me (ix1 c))) := by
  pointwise [refCol]

/-- The first result at an entry: the distance of the row's embedding to the column's mean. -/
theorem refDist_at (e : Vec Ideal S1024x128 .f32) (mb mm mn : Vec Ideal S128 .f32) (i : Fin 1024) (k : Fin 3) (z : Fin 1) :
    refDist e mb mm mn (ix3 i k z) = pick3 k (refCol e mb (ix2 i 0)) (refCol e mm (ix2 i 0)) (refCol e mn (ix2 i 0)) := by
  rw [← ladder_eq]
  pointwise [refDist]

/-- Every word below 224 is divided by 28 and rounded down as its value is. -/
theorem floor_word : ∀ k : Fin 224,
    Scalar.select
      (IntOp.andi
        (IntOp.cmpi CmpIPredicate.ne (if BitVec.ofNat 32 (k : ℕ) = 0 then (0 : BitVec 32) else if BitVec.msb (BitVec.ofNat 32 (k : ℕ)) = true then -1 else 1)
          (if 28#32 = 0 then (0 : BitVec 32) else if (28#32).msb = true then -1 else 1))
        (IntOp.cmpi CmpIPredicate.ne (IntOp.remsi ArithUnit.host (BitVec.ofNat 32 (k : ℕ)) 28#32) 0#32))
      (IntOp.subi (IntOp.divsi ArithUnit.host (BitVec.ofNat 32 (k : ℕ)) 28#32) 1#32)
      (IntOp.divsi ArithUnit.host (BitVec.ofNat 32 (k : ℕ)) 28#32) = BitVec.ofNat 32 ((k : ℕ) / 28) := by
  decide +kernel

/-- A word is the word of its value. -/
theorem word_of_toNat (w : BitVec 32) {n : ℕ} (h : w.toNat = n) : w = BitVec.ofNat 32 n := by
  subst h; simp

/-- A centroid coordinate in range, divided by 28. -/
theorem refFloor_at (x : Vec Ideal S64x1024 .i32) (p : Fin 64) (i : Fin 1024) (n : Fin 224) (h : x (ix2 p i) = BitVec.ofNat 32 n) :
    refFloor (F := Ideal) x (ix2 p i) = BitVec.ofNat 32 ((n : ℕ) / 28) := by
  pointwise [refFloor]
  rw [h]
  exact floor_word n

/-- A small word is not negative, so it is left as it is. -/
theorem wrap_word (n : ℕ) (h : n < 1024) (c : BitVec 32) :
    Scalar.select (IntOp.cmpi CmpIPredicate.slt (BitVec.ofNat 32 n) 0#32) (IntOp.addi (BitVec.ofNat 32 n) c) (BitVec.ofNat 32 n)
      = BitVec.ofNat 32 n := by
  have : ¬ IntOp.cmpi CmpIPredicate.slt (BitVec.ofNat 32 n) 0#32 = 1#1 := by
    rw [StableHlo.Predicate.slt_iff_toNat (by rw [BitVec.toNat_ofNat]; omega) (by decide)]
    simp
  unfold Scalar.select
  simp [this]

/-- A grid coordinate of a part. -/
theorem refWrap_at (x : Vec Ideal S64x1024 .i32) (p : Fin 64) (i : Fin 1024) (n : Fin 224) (h : x (ix2 p i) = BitVec.ofNat 32 n) :
    refWrap (F := Ideal) x (ix2 i p) = BitVec.ofNat 32 ((n : ℕ) / 28) := by
  pointwise [refWrap]
  rw [refFloor_at x p i n h]
  exact wrap_word _ (by omega) _

/-- The place of a part: its row and its two grid coordinates. -/
theorem refPlace_at (cx cy : Vec Ideal S64x1024 .i32) (p : Fin 64) (i : Fin 1024) (nx ny : Fin 224)
    (hx : cx (ix2 p i) = BitVec.ofNat 32 nx) (hy : cy (ix2 p i) = BitVec.ofNat 32 ny) :
    refPlace (F := Ideal) cx cy (ix3 i p 0) = BitVec.ofNat 32 i ∧
    refPlace (F := Ideal) cx cy (ix3 i p 1) = BitVec.ofNat 32 ((nx : ℕ) / 28) ∧
    refPlace (F := Ideal) cx cy (ix3 i p 2) = BitVec.ofNat 32 ((ny : ℕ) / 28) := by
  refine ⟨?_, ?_, ?_⟩
  · pointwise [refPlace, refRow]
    exact wrap_word _ (by omega) _
  · pointwise [refPlace]
    exact refWrap_at cx p i nx hx
  · pointwise [refPlace]
    exact refWrap_at cy p i ny hy

/-- A small word read signed is its value. -/
theorem toInt_toNat_ofNat (n : ℕ) (h : n < 1024) : (BitVec.ofNat 32 n).toInt.toNat = n := by
  rw [StableHlo.Predicate.toInt_ofNat_small n (by omega)]; simp

/-- The gather of feature vectors, at an entry: the entry of the operand at the place the three index words name. -/
theorem gather_place (x : Vec Ideal S1024x8x8x128 .f32) (idx : Vec Ideal S1024x64x3 .i32) (i : Fin 1024) (p : Fin 64) (c : Fin 128)
    (a b : Fin 8) (h0 : idx (ix3 i p 0) = BitVec.ofNat 32 i) (h1 : idx (ix3 i p 1) = BitVec.ofNat 32 a)
    (h2 : idx (ix3 i p 2) = BitVec.ofNat 32 b) :
    Host.gather gather_S1024x8x8x128_S1024x64x3_S1024x64x128_2_012_n_n_012_2_111128 x idx (ix3 i p c) = x (ix4 i a b c) := by
  unfold Host.gather
  congr 1
  have hsi : ∀ (k : Fin 3) (hk : (k : ℕ) < gather_S1024x8x8x128_S1024x64x3_S1024x64x128_2_012_n_n_012_2_111128.startIndexMap.length),
      gather_S1024x8x8x128_S1024x64x3_S1024x64x128_2_012_n_n_012_2_111128.siIdx (ix3 i p c) ⟨k, hk⟩ = (ix3 i p k : S1024x64x3.Idx) := by
    intro k hk
    funext d
    refine Fin.ext ?_
    match d with
    | ⟨0, _⟩ => rfl
    | ⟨1, _⟩ => rfl
    | ⟨2, _⟩ => rfl
  funext d
  refine Fin.ext ?_
  match d with
  | ⟨0, _⟩ =>
    refine (congrArg (fun t => min (BitVec.toInt (idx t)).toNat (1024 - 1) + 0 + 0) (hsi 0 (by decide))).trans ?_
    simp only [h0, toInt_toNat_ofNat _ (show (i : ℕ) < 1024 by omega)]
    show min (i : ℕ) (1024 - 1) + 0 + 0 = (i : ℕ)
    omega
  | ⟨1, _⟩ =>
    refine (congrArg (fun t => min (BitVec.toInt (idx t)).toNat (8 - 1) + 0 + 0) (hsi 1 (by decide))).trans ?_
    simp only [h1, toInt_toNat_ofNat _ (show (a : ℕ) < 1024 by omega)]
    show min (a : ℕ) (8 - 1) + 0 + 0 = (a : ℕ)
    omega
  | ⟨2, _⟩ =>
    refine (congrArg (fun t => min (BitVec.toInt (idx t)).toNat (8 - 1) + 0 + 0) (hsi 2 (by decide))).trans ?_
    simp only [h2, toInt_toNat_ofNat _ (show (b : ℕ) < 1024 by omega)]
    show min (b : ℕ) (8 - 1) + 0 + 0 = (b : ℕ)
    omega
  | ⟨3, _⟩ =>
    show 0 + 0 + (c : ℕ) = (c : ℕ)
    omega

/-- The feature vector of a part, at a channel. -/
theorem refPe_at (fm : Vec Ideal S1024x128x8x8 .f32) (cx cy : Vec Ideal S64x1024 .i32) (i : Fin 1024) (p : Fin 64) (c : Fin 128)
    (nx ny : Fin 224) (hx : cx (ix2 p i) = BitVec.ofNat 32 nx) (hy : cy (ix2 p i) = BitVec.ofNat 32 ny) :
    refPe (F := Ideal) fm cx cy (ix3 i p c) = fm (ix4 i c ⟨(nx : ℕ) / 28, by omega⟩ ⟨(ny : ℕ) / 28, by omega⟩) := by
  obtain ⟨h0, h1, h2⟩ := refPlace_at cx cy p i nx ny hx hy
  unfold refPe
  rw [gather_place _ _ i p c ⟨(nx : ℕ) / 28, by omega⟩ ⟨(ny : ℕ) / 28, by omega⟩ h0 h1 h2]
  pointwise

/-- The distance of a part to one of its three means. -/
theorem refDis_at (pe : Vec Ideal S1024x64x128 .f32) (b m n : Vec Ideal S64x128 .f32) (i : Fin 1024) (k : Fin 3) (p : Fin 64) :
    refDis pe (refMeans b m n) (ix3 i k p) = Ideal.sqrt (∑ c : Fin 128,
      (pe (ix3 i p c) - pick3 k (b (ix2 p c)) (m (ix2 p c)) (n (ix2 p c))) * (pe (ix3 i p c) - pick3 k (b (ix2 p c)) (m (ix2 p c)) (n (ix2 p c)))) := by
  pointwise [refDis, refMeans]
  simp only [ladder_eq]

/-- The place a label names. -/
theorem refLabAt_at (lab : Vec Ideal S1024 .i32) (i : Fin 1024) (p : Fin 64) (l : Fin 3) (h : lab (ix1 i) = BitVec.ofNat 32 l) :
    refLabAt (F := Ideal) lab (ix4 i 0 p 0) = BitVec.ofNat 32 l := by
  pointwise [refLabAt, refLab]
  rw [h]
  exact wrap_word _ (by omega) _

/-- A label in range names a mean. -/
theorem refLabOk_at (lab : Vec Ideal S1024 .i32) (i : Fin 1024) (p : Fin 64) (l : Fin 3) (h : lab (ix1 i) = BitVec.ofNat 32 l) :
    refLabOk (F := Ideal) lab (ix3 i 0 p) = 1#1 := by
  pointwise [refLabOk]
  have e : (Finset.univ : Finset (Fin 1)) = {0} := rfl
  rw [e, Finset.fold_singleton, refLabAt_at lab i p l h]
  clear h
  revert l
  decide +kernel

/-- The gather along the means, at an entry: the entry of the mean the index word names. -/
theorem gather_label (x : Vec Ideal S1024x3x64 .f32) (idx : Vec Ideal S1024x1x64x1 .i32) (i : Fin 1024) (p : Fin 64)
    (l : Fin 3) (h0 : idx (ix4 i 0 p 0) = BitVec.ofNat 32 l) :
    Host.gather gather_S1024x3x64_S1024x1x64x1_S1024x1x64_n_1_02_02_1_3_111 x idx (ix3 i 0 p) = x (ix3 i l p) := by
  unfold Host.gather
  congr 1
  have hsi : ∀ (hk : 0 < gather_S1024x3x64_S1024x1x64x1_S1024x1x64_n_1_02_02_1_3_111.startIndexMap.length),
      gather_S1024x3x64_S1024x1x64x1_S1024x1x64_n_1_02_02_1_3_111.siIdx (ix3 i 0 p) ⟨0, hk⟩ = (ix4 i 0 p 0 : S1024x1x64x1.Idx) := by
    intro hk
    funext d
    refine Fin.ext ?_
    match d with
    | ⟨0, _⟩ => rfl
    | ⟨1, _⟩ => rfl
    | ⟨2, _⟩ => rfl
    | ⟨3, _⟩ => rfl
  funext d
  refine Fin.ext ?_
  match d with
  | ⟨0, _⟩ =>
    show 0 + (i : ℕ) + 0 = (i : ℕ)
    omega
  | ⟨1, _⟩ =>
    refine (congrArg (fun t => min (BitVec.toInt (idx t)).toNat (3 - 1) + 0 + 0) (hsi (by decide))).trans ?_
    simp only [h0, toInt_toNat_ofNat _ (show (l : ℕ) < 1024 by omega)]
    show min (l : ℕ) (3 - 1) + 0 + 0 = (l : ℕ)
    omega
  | ⟨2, _⟩ =>
    show 0 + (p : ℕ) + 0 = (p : ℕ)
    omega

/-- The distance of a part to its row's labelled mean. -/
theorem refPick_at (dis : Vec Ideal S1024x3x64 .f32) (lab : Vec Ideal S1024 .i32) (i : Fin 1024) (p : Fin 64) (l : Fin 3)
    (h : lab (ix1 i) = BitVec.ofNat 32 l) : refPick (F := Ideal) dis lab (ix3 i 0 p) = dis (ix3 i l p) := by
  pointwise [refPick]
  rw [refLabOk_at lab i p l h, gather_label dis _ i p l (refLabAt_at lab i p l h)]
  rfl

/-- The same distance, at its place in one row. -/
theorem refSame_at (dis : Vec Ideal S1024x3x64 .f32) (lab : Vec Ideal S1024 .i32) (i : Fin 65536) :
    refSame (F := Ideal) dis lab (ix1 i) = refPick (F := Ideal) dis lab (ix3 ⟨i / 64, by omega⟩ 0 ⟨i % 64, by omega⟩) := by
  pointwise [refSame]

/-- The third result, as sums. -/
theorem refLoss_at (dis : Vec Ideal S1024x3x64 .f32) (same : Vec Ideal S65536 .f32) (j) :
    refLoss dis same j = Ideal.div (∑ x : Fin 65536, max 0 (1 + same (ix1 x) -
      Ideal.div ((∑ a : Fin 1024, ∑ k : Fin 3, ∑ p : Fin 64, dis (ix3 a k p)) - ∑ k : Fin 65536, same (ix1 k)) (Ideal.ofBits FTy.f32 0x48000000#32)))
      (Ideal.ofBits FTy.f32 0x47800000#32) := by
  pointwise [refLoss]

/-! ### The place of the smallest of three -/

/-- The elements that the reduction of one row meets: its three entries in their order, each with its place. -/
theorem fiber_row (x : Vec Ideal S1024x3x1 .f32) (i : Fin 1024) :
    Host.argReduceFiber x (iotaInDim S1024x3x1 32 1) reducesTo_S1024x3x1_S1024x1_d1 (ix2 i 0)
      = [(x (ix3 i 0 0), 0#32), (x (ix3 i 1 0), 1#32), (x (ix3 i 2 0), 2#32)] := by
  have hpos : ∀ k : Fin 3, ((S1024x3x1.rowMajor (ix3 i k 0) : Fin _) : ℕ) = 3 * (i : ℕ) + k := by
    intro k
    rw [rowMajor_val3 (ix3 i k 0) 3 1 (by decide) (by decide)]
    show (i : ℕ) * 3 + (k : ℕ) * 1 + 0 = _
    omega
  have key : ((List.finRange S1024x3x1.numel).filter fun n =>
      reducesTo_S1024x3x1_S1024x1_d1.drop (S1024x3x1.rowMajor.symm n) = (ix2 i 0 : S1024x1.Idx))
      = [S1024x3x1.rowMajor (ix3 i 0 0), S1024x3x1.rowMajor (ix3 i 1 0), S1024x3x1.rowMajor (ix3 i 2 0)] := by
    refine List.Perm.eq_of_pairwise (le := (· < ·)) (fun a b _ _ h1 h2 => absurd h1 (lt_asymm h2)) ?_ ?_ ?_
    · exact (List.pairwise_lt_finRange _).filter _
    · have h01 := hpos 0
      have h11 := hpos 1
      have h21 := hpos 2
      simp only [List.pairwise_cons, Fin.lt_def]
      refine ⟨?_, ?_, ?_, List.Pairwise.nil⟩ <;> intro a ha <;> simp at ha
      · rcases ha with rfl | rfl <;> simp [hpos]
      · subst ha; simp [hpos]
    · refine (List.perm_ext_iff_of_nodup ((List.nodup_finRange _).filter _) ?_).2 ?_
      · have hne : ∀ k l : Fin 3, k ≠ l → S1024x3x1.rowMajor (ix3 i k 0) ≠ S1024x3x1.rowMajor (ix3 i l 0) := by
          intro k l hkl he
          have h1 := hpos k
          rw [he, hpos l] at h1
          exact hkl (Fin.ext (by omega))
        simp only [List.nodup_cons, List.mem_cons, List.not_mem_nil, or_false, not_or, List.nodup_nil, not_false_eq_true, and_true]
        exact ⟨⟨hne 0 1 (by decide), hne 0 2 (by decide)⟩, hne 1 2 (by decide)⟩
      · intro n
        simp only [List.mem_filter, List.mem_finRange, true_and, decide_eq_true_eq, List.mem_cons, List.not_mem_nil, or_false]
        constructor
        · intro h
          obtain ⟨f, rfl⟩ := S1024x3x1.rowMajor.surjective n
          rw [Equiv.symm_apply_apply] at h
          have h0 : (f 0 : ℕ) = i := by
            rw [← Shape.ReducesTo.drop_apply_val_of_eq reducesTo_S1024x3x1_S1024x1_d1 f 0 0 (by decide) (by decide), h]
            rfl
          have hf : f = ix3 i (f 1) 0 := by
            funext d
            match d with
            | ⟨0, _⟩ => exact Fin.ext h0
            | ⟨1, _⟩ => rfl
            | ⟨2, _⟩ => exact Fin.ext (by have : (f 2 : ℕ) < 1 := (f 2).isLt; show (f 2 : ℕ) = 0; omega)
          rw [hf]
          generalize f 1 = k
          change Fin 3 at k
          fin_cases k <;> simp
        · rintro (rfl | rfl | rfl) <;> rw [Equiv.symm_apply_apply] <;> (
            funext d
            match d with
            | ⟨0, _⟩ => exact Fin.ext (Shape.ReducesTo.drop_apply_val_of_eq reducesTo_S1024x3x1_S1024x1_d1 _ 0 0 (by decide) (by decide))
            | ⟨1, _⟩ => exact Fin.ext (Shape.ReducesTo.drop_apply_val_of_eq reducesTo_S1024x3x1_S1024x1_d1 _ 1 2 (by decide) (by decide)))
  unfold Host.argReduceFiber
  rw [key]
  simp only [List.map_cons, List.map_nil, Equiv.symm_apply_apply]
  rfl

/-- One step of the arg-min, from a pair to the next entry: the smaller value, and its place, the earlier one on a tie. -/
theorem reducer_step (a b : EReal) (p q : BitVec 32) (h : IntOp.cmpi .slt p q = 1#1) :
    reducer_argmin_f32_i32 (F := Ideal) (a, p) (b, q) = if a ≤ b then (a, p) else (b, q) := by
  unfold reducer_argmin_f32_i32
  simp only [h]
  rcases lt_trichotomy a b with hl | rfl | hl
  · simp [Ideal.cmpf_def, Ideal.cmp, Scalar.select, hl, hl.le, hl.ne, IntOp.ori, IntOp.andi]
  · simp [Ideal.cmpf_def, Ideal.cmp, Scalar.select, IntOp.ori, IntOp.andi]
  · simp [Ideal.cmpf_def, Ideal.cmp, Scalar.select, hl, not_le.2 hl, hl.ne', not_lt.2 hl.le, IntOp.ori, IntOp.andi]

/-- The first step, from plus infinity and place zero, gives the first entry. -/
theorem reducer_first (a : EReal) :
    reducer_argmin_f32_i32 (F := Ideal) (⊤, 0#32) (a, 0#32) = (a, 0#32) := by
  unfold reducer_argmin_f32_i32
  simp [Ideal.cmpf_def, Ideal.cmp, Scalar.select, IntOp.ori, IntOp.andi, IntOp.cmpi]

/-- The second result at a row: the place of the smallest of the row's three distances. -/
theorem refVal_at (x : Vec Ideal S1024x3x1 .f32) (i : Fin 1024) :
    refVal x (ix1 i) = amin3 (x (ix3 i 0 0)) (x (ix3 i 1 0)) (x (ix3 i 2 0)) := by
  have e : (constant (F := Ideal) S_ .f32 0x7F800000#32) (Shape.Idx.first h_S_) = (⊤ : EReal) := by
    show Ideal.ofBits FTy.f32 0x7F800000#32 = ⊤
    simp [Ideal.ofBits, Ideal.ieee]
  pointwise [refVal]
  rw [Ideal.argReduce_eq_reduce2, Host.reduce2_eq_foldl_fiber, fiber_row, e]
  show (List.foldl (reducer_argmin_f32_i32 (F := Ideal)) ((⊤ : EReal), (0#32 : BitVec 32)) _).2 = _
  simp only [List.foldl_cons, List.foldl_nil]
  rw [reducer_first, reducer_step _ _ 0#32 1#32 (by decide)]
  unfold amin3
  generalize (x (ix3 i 0 0) : EReal) = a
  generalize (x (ix3 i 1 0) : EReal) = b
  generalize (x (ix3 i 2 0) : EReal) = c
  by_cases h : a ≤ b
  · rw [if_pos h, reducer_step _ _ 0#32 2#32 (by decide)]
    by_cases h2 : a ≤ c
    · rw [if_pos h2, if_pos ⟨h, h2⟩]
    · rw [if_neg h2, if_neg (show ¬ (a ≤ b ∧ a ≤ c) from fun q => h2 q.2), if_neg (show ¬ b ≤ c from fun q => h2 (h.trans q))]
  · rw [if_neg h, reducer_step _ _ 1#32 2#32 (by decide), if_neg (show ¬ (a ≤ b ∧ a ≤ c) from fun q => h q.1)]
    by_cases h2 : b ≤ c
    · rw [if_pos h2, if_pos h2]
    · rw [if_neg h2, if_neg h2]

end Cert.ReferenceIdeal.Hand

end
-- ==== Proof.RLoss.lean ====
module

public import proofs.«01_k».proof.Proof.RefPure
public import proofs.«01_k».proof.Proof.Spec

@[expose] public section

set_option maxRecDepth 16384

noncomputable section

namespace Cert.ReferenceIdeal.Hand

open Idealize.ShloMosaic Cert.ReferenceIdeal Cert.Hand

/-! The reference's loss, from the argument arrays. -/

variable (lab : Vec Ideal S1024 .i32) (fm : Vec Ideal S1024x128x8x8 .f32) (mb mm mn : Vec Ideal S64x128 .f32) (cx cy : Vec Ideal S64x1024 .i32)
variable (h : Ranges lab fm mb mm mn cx cy)

include h

/-- The feature vector that the reference gathers. -/
theorem refFeat_at (i : Fin 1024) (p : Fin 64) (k : Fin 128) :
    refPe (F := Ideal) fm cx cy (ix3 i p k) = fm (ix4 i k (cell (cx (ix2 p i))) (cell (cy (ix2 p i)))) := by
  have hx := h.cx_lt (ix2 p i)
  have hy := h.cy_lt (ix2 p i)
  refine (refPe_at fm cx cy i p k ⟨_, hx⟩ ⟨_, hy⟩ (word_fin _ _ hx) (word_fin _ _ hy)).trans ?_
  exact congrArg₂ (fun a b => fm (ix4 i k a b)) (Fin.ext (cell_val _ hx).symm) (Fin.ext (cell_val _ hy).symm)

/-- The distances of the reference. -/
theorem refPart_at (i : Fin 1024) (k : Fin 3) (p : Fin 64) : refDis (refPe (F := Ideal) fm cx cy) (refMeans mb mm mn) (ix3 i k p)
    = pick3 k (partDist fm cx cy mb i p) (partDist fm cx cy mm i p) (partDist fm cx cy mn i p) := by
  rw [refDis_at]
  simp only [refFeat_at lab fm mb mm mn cx cy h]
  fin_cases k <;> rfl

/-- The label distances of the reference. -/
theorem refLabel_at (x : Fin 65536) :
    refSame (F := Ideal) (refDis (refPe (F := Ideal) fm cx cy) (refMeans mb mm mn)) lab (ix1 x)
      = partSame lab fm mb mm mn cx cy ⟨(x : ℕ) / 64, by omega⟩ ⟨(x : ℕ) % 64, by omega⟩ := by
  have hl := h.lab_lt (ix1 ⟨(x : ℕ) / 64, by omega⟩)
  rw [refSame_at, refPick_at _ _ _ _ ⟨_, hl⟩ (word_fin _ _ hl), refPart_at lab fm mb mm mn cx cy h]
  rfl

/-- The loss of the reference. -/
theorem refLossOf (j) :
    refLoss (refDis (refPe (F := Ideal) fm cx cy) (refMeans mb mm mn))
        (refSame (F := Ideal) (refDis (refPe (F := Ideal) fm cx cy) (refMeans mb mm mn)) lab) j
      = lossOf (partAll fm mb mm mn cx cy) (partSame lab fm mb mm mn cx cy) := by
  rw [refLoss_at]
  simp only [refLabel_at lab fm mb mm mn cx cy h, refPart_at lab fm mb mm mn cx cy h]
  rw [show ∑ a : Fin 1024, ∑ k : Fin 3, ∑ p : Fin 64, pick3 k (partDist fm cx cy mb a p) (partDist fm cx cy mm a p) (partDist fm cx cy mn a p)
      = ∑ i, ∑ p, partAll fm mb mm mn cx cy i p from Finset.sum_congr rfl fun a _ => by
    rw [Fin.sum_univ_three, ← Finset.sum_add_distrib, ← Finset.sum_add_distrib]
    rfl]
  exact loss_flat _ _

end Cert.ReferenceIdeal.Hand

end
-- ==== Proof.Out.lean ====
module

public import proofs.«01_k».proof.Proof.KLoss
public import proofs.«01_k».proof.Proof.RLoss
public import proofs.«01_k».proof.Proof.RefRead

@[expose] public section

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Hand
open Idealize.ShloMosaic.Pipeline (Dat)
open Cert.ReferenceIdeal.Hand (refDist refVal refDis refPe refMeans refLoss refSame refDist_at refCol_at refVal_at refLossOf)

variable (m : (ℓ : Loc nD τ sig) → Buf (Elt Ideal) ℓ) (c : Dev nD)

/-! The three results after the host's reshapes, against the reference's terms. -/

/-- The first result is the array of distances, reshaped. -/
theorem tail_12 : Pipeline.afterTail₀ cfgs (dats m) 0 (V0 m) [hostOps1] c main_v12
    = shapeCast S1024x3x1 (fun y => dist3 m c (y 0) (y 1 : ℕ) : Vec Ideal S1024x3 .f32) shapeCasts_S1024x3_S1024x3x1 := by
  rw [← arr_7]
  unfold Pipeline.afterTail₀
  have e := Pipeline.withArrays_arr spec0 launch0.win.arr_inj c (V0 m c) (fun w => (dats m 0 c).arrAt w (cfgs 0).N) 7
  generalize hW : Pipeline.withArrays _ c (V0 m c) _ = W
  have e' : W (Proc.devRef .tc main_v11_0) = (dats m 0 c).arrAt 7 (cfgs 0).N := by rw [← hW]; exact e
  rw [← e']
  unfold hostOps1
  simp only [List.flatten_cons, List.flatten_nil, List.append_nil]
  after_reads_simp
  rfl

/-- The second result is the array of indices, reshaped. -/
theorem tail_13 : Pipeline.afterTail₀ cfgs (dats m) 0 (V0 m) [hostOps1] c main_v13
    = shapeCast S1024 (fun y => amin3 (dist3 m c (y 0) 0) (dist3 m c (y 0) 1) (dist3 m c (y 0) 2) : Vec Ideal S1024x1 .i32) shapeCasts_S1024x1_S1024 := by
  rw [← arr_8]
  unfold Pipeline.afterTail₀
  have e := Pipeline.withArrays_arr spec0 launch0.win.arr_inj c (V0 m c) (fun w => (dats m 0 c).arrAt w (cfgs 0).N) 8
  generalize hW : Pipeline.withArrays _ c (V0 m c) _ = W
  have e' : W (Proc.devRef .tc main_v11_1) = (dats m 0 c).arrAt 8 (cfgs 0).N := by rw [← hW]; exact e
  rw [← e']
  unfold hostOps1
  simp only [List.flatten_cons, List.flatten_nil, List.append_nil]
  after_reads_simp
  rfl

/-- The third result is the loss, reshaped. -/
theorem tail_14 : Pipeline.afterTail₀ cfgs (dats m) 0 (V0 m) [hostOps1] c main_v14
    = shapeCast S_ (lossAt m c : Vec Ideal S1x1 .f32) shapeCasts_S1x1_S_ := by
  rw [← arr_9]
  unfold Pipeline.afterTail₀
  have e := Pipeline.withArrays_arr spec0 launch0.win.arr_inj c (V0 m c) (fun w => (dats m 0 c).arrAt w (cfgs 0).N) 9
  generalize hW : Pipeline.withArrays _ c (V0 m c) _ = W
  have e' : W (Proc.devRef .tc main_v11_2) = (dats m 0 c).arrAt 9 (cfgs 0).N := by rw [← hW]; exact e
  rw [← e']
  unfold hostOps1
  simp only [List.flatten_cons, List.flatten_nil, List.append_nil]
  after_reads_simp
  rfl

/-- The distances with a trailing axis added. -/
theorem cast_12 (f : Vec Ideal S1024x3 .f32) (i : Fin 1024) (k : Fin 3) (z : Fin 1) :
    shapeCast S1024x3x1 f shapeCasts_S1024x3_S1024x3x1 (ix3 i k z) = f (ix2 i k) := by
  pointwise

/-- The indices with their trailing axis dropped. -/
theorem cast_13 (f : Vec Ideal S1024x1 .i32) (i : Fin 1024) : shapeCast S1024 f shapeCasts_S1024x1_S1024 (ix1 i) = f (ix2 i 0) := by
  pointwise

/-- The first result of the reference, over the kernel's arguments. -/
abbrev refDist3 : Vec Ideal S1024x3x1 .f32 := refDist (F := Ideal) (m ((c : Thread nD τ).loc main_arg1)) (m ((c : Thread nD τ).loc main_arg8))
  (m ((c : Thread nD τ).loc main_arg9)) (m ((c : Thread nD τ).loc main_arg10))

/-- The reference's distances are the kernel's. -/
theorem refDist3_at (i : Fin 1024) (k : Fin 3) (z : Fin 1) : refDist3 m c (ix3 i k z) = dist3 m c i k := by
  unfold refDist3
  rw [refDist_at, refCol_at, refCol_at, refCol_at]
  rfl

/-- The first result is the reference's first. -/
theorem out_12 : refDist3 m c = Pipeline.afterTail₀ cfgs (dats m) 0 (V0 m) [hostOps1] c main_v12 := by
  rw [tail_12]
  funext y
  have hy : y = ix3 (y 0 : Fin 1024) (y 1 : Fin 3) (y 2 : Fin 1) := funext fun a => by fin_cases a <;> rfl
  exact (congrArg (refDist3 m c) hy).trans ((refDist3_at m c (y 0) (y 1) (y 2)).trans
    ((cast_12 (fun y => dist3 m c (y 0) (y 1 : ℕ)) (y 0) (y 1) (y 2)).symm.trans (congrArg (shapeCast S1024x3x1 _ _) hy.symm)))

/-- The second result is the reference's second. -/
theorem out_13 : refVal (F := Ideal) (refDist3 m c) = Pipeline.afterTail₀ cfgs (dats m) 0 (V0 m) [hostOps1] c main_v13 := by
  rw [tail_13]
  funext y
  have hy : y = ix1 (y 0 : Fin 1024) := funext fun a => by fin_cases a; rfl
  have h1 : refVal (F := Ideal) (refDist3 m c) (ix1 (y 0 : Fin 1024)) = amin3 (dist3 m c (y 0) 0) (dist3 m c (y 0) 1) (dist3 m c (y 0) 2) :=
    (refVal_at (refDist3 m c) (y 0)).trans (congr (congr (congrArg amin3 (refDist3_at m c (y 0) 0 0)) (refDist3_at m c (y 0) 1 0)) (refDist3_at m c (y 0) 2 0))
  exact (congrArg (refVal (F := Ideal) (refDist3 m c)) hy).trans (h1.trans
    ((cast_13 (fun y => amin3 (dist3 m c (y 0) 0) (dist3 m c (y 0) 1) (dist3 m c (y 0) 2)) (y 0)).symm.trans (congrArg (shapeCast S1024 _ _) hy.symm)))

/-- The reference's part distances, over the kernel's arguments. -/
abbrev refParts : Vec Ideal Cert.ReferenceIdeal.S1024x3x64 .f32 := refDis (refPe (F := Ideal) (aFm m c) (aCx m c) (aCy m c)) (refMeans (aMb m c) (aMm m c) (aMn m c))

/-- The third result is the reference's third. -/
theorem out_14 (h : Ranges (aLab m c) (aFm m c) (aMb m c) (aMm m c) (aMn m c) (aCx m c) (aCy m c)) :
    refLoss (refParts m c) (refSame (F := Ideal) (refParts m c) (aLab m c)) = Pipeline.afterTail₀ cfgs (dats m) 0 (V0 m) [hostOps1] c main_v14 := by
  rw [tail_14]
  funext y
  rw [refLossOf _ _ _ _ _ _ _ h, ← lossAt_at m c h]
  pointwise

end Cert.KernelIdeal.Hand

end
-- ==== Proof.Pre.lean ====
module

public import proofs.«01_k».proof.Proof.Spec
public import proofs.«01_k».proof.Proof.Gen.Pre_drawn
public import Idealize.ShloMosaic.Lib.ReduceAll
public import Idealize.ShloMosaic.Lib.Pointwise
public import Idealize.ShloMosaic.Lib.WordArith

@[expose] public section

set_option maxRecDepth 16384

noncomputable section

namespace Cert.Hand

open Idealize.ShloMosaic Cert.Pre_drawn

/-! What the precondition says, entry by entry. -/

/-- Two bits are both one when their conjunction is. -/
theorem both_one : ∀ a b : BitVec 1, IntOp.andi a b = 1#1 → a = 1#1 ∧ b = 1#1 := by decide

/-- A bit that is one is true. -/
theorem bit_true : ∀ b : Bool, BitVec.ofBool b = 1#1 → b = true := by decide

/-- A word that is at least zero and below `k` has a value below `k`. -/
theorem word_range (x : BitVec 32) (k : ℕ) (hk : k < 2 ^ 31)
    (h : IntOp.andi (IntOp.cmpi .sge x 0#32) (IntOp.cmpi .slt x (BitVec.ofNat 32 k)) = 1#1) : x.toNat < k := by
  obtain ⟨h0, h1⟩ := both_one _ _ h
  refine WordArith.toNat_lt_of_zero_sle_of_slt_ofNat x k hk ?_ ?_
  · exact bit_true _ h0
  · exact bit_true _ h1

/-- A number whose absolute value lies below infinity is real. -/
theorem real_of_abs (x : EReal) (h : FloatOps.cmpf (F := Ideal) (φ := .f32) .olt (FloatOps.hostAbsf (F := Ideal) (φ := .f32) x) (FloatOps.ofBits .f32 0x7F800000#32) = 1#1) : ∃ r : ℝ, x = r := by
  have e : Ideal.ofBits FTy.f32 0x7F800000#32 = ⊤ := by simp [Ideal.ofBits, Ideal.ieee]
  have h2 : BitVec.ofBool (decide (max x (-x) < Ideal.ofBits FTy.f32 0x7F800000#32)) = 1#1 := h
  rw [e] at h2
  have h3 : max x (-x) < ⊤ := by
    by_contra hn
    rw [decide_eq_false hn] at h2
    exact absurd h2 (by decide)
  induction x with
  | bot => simp at h3
  | top => simp at h3
  | coe r => exact ⟨r, rfl⟩

/-- The precondition, entry by entry. -/
theorem ranges (a0 : IVec S1024 32) (a1 : FVec Ideal S1024x128 .f32) (a2 : FVec Ideal S1024x128x8x8 .f32) (a3 a4 a5 : FVec Ideal S64x128 .f32)
    (a6 a7 : IVec S64x1024 32) (a8 a9 a10 : FVec Ideal S128 .f32)
    (h : Cert.Pre_drawn.fn (F := Ideal) a0 a1 a2 a3 a4 a5 a6 a7 a8 a9 a10 = fun _ => 1#1) : Ranges a0 a2 a3 a4 a5 a6 a7 := by
  have : Subsingleton S_.Idx := ⟨fun a b => funext fun i => i.elim0⟩
  have h0 := congrFun h (fun i => i.elim0)
  unfold Cert.Pre_drawn.fn fn_part1 fn_part2 at h0
  obtain ⟨h0, p5⟩ := both_one _ _ h0
  obtain ⟨h0, p4⟩ := both_one _ _ h0
  obtain ⟨h0, p3⟩ := both_one _ _ h0
  obtain ⟨h0, p2⟩ := both_one _ _ h0
  obtain ⟨h0, p7⟩ := both_one _ _ h0
  obtain ⟨p0, p6⟩ := both_one _ _ h0
  exact
    { lab_lt := fun i => word_range (a0 i) 3 (by decide) (Host.reduce_andi_all _ _ _ _ _ p0 i)
      cx_lt := fun i => word_range (a6 i) 224 (by decide) (Host.reduce_andi_all _ _ _ _ _ p6 i)
      cy_lt := fun i => word_range (a7 i) 224 (by decide) (Host.reduce_andi_all _ _ _ _ _ p7 i)
      fm_fin := fun i => real_of_abs (a2 i) (Host.reduce_andi_all _ _ _ _ _ p2 i)
      mb_fin := fun i => real_of_abs (a3 i) (Host.reduce_andi_all _ _ _ _ _ p3 i)
      mm_fin := fun i => real_of_abs (a4 i) (Host.reduce_andi_all _ _ _ _ _ p4 i)
      mn_fin := fun i => real_of_abs (a5 i) (Host.reduce_andi_all _ _ _ _ _ p5 i) }

end Cert.Hand

end
-- ==== Proof.lean ====
/- The proof of the certificate's claim: the programs end with every semaphore at zero and their arguments untouched,
   the kernel's idealization is the kernel, and at exact arithmetic its three results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_drawn
public import proofs.«01_k».proof.Proof.Twin
public import proofs.«01_k».proof.Proof.Out
public import proofs.«01_k».proof.Proof.Pre
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.StableHlo Idealize.SL.Sem
open Cert.KernelIdeal (nD τ sig main_arg0 main_arg1 main_arg2 main_arg3 main_arg4 main_arg5 main_arg6 main_arg7 main_arg8 main_arg9 main_arg10)

/-- The kernel, at any numbers: its arguments end as they began, its semaphores at zero. -/
theorem kernel_quiet {F : FTy → Type} [FloatOps F] (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)) ∧ r.2.sem = fun _ => 0) :=
  θ_run_and
    (Cert.KernelIdeal.Gen.frame_of (F := F) m ρ (Cert.KernelIdeal.Hand.dats m) (Cert.KernelIdeal.Hand.A_eq m)
      ((θ_run Cert.KernelIdeal.defs _ _).mono (fun _ h => h.1) (Cert.KernelIdeal.Hand.run_quiet m ρ)))
    ((θ_run Cert.KernelIdeal.defs _ _).mono (fun _ h => h.2) (Cert.KernelIdeal.Hand.run_quiet m ρ))

/-- The kernel's frame. -/
theorem quiet_kernel : quiescent_Kernel (hKernel := Cert.Kernel.Gen.facts) := fun m ρ _ => Cert.Hand.run_same _ _ (kernel_quiet (F := Bits) m ρ)

/-- The idealization's frame. -/
theorem quiet_ideal : quiescent_KernelIdeal (hKernelIdeal := Cert.KernelIdeal.Gen.facts) := fun m ρ _ => kernel_quiet (F := Ideal) m ρ

/-- The reference's frame. -/
theorem quiet_ref : quiescent_ReferenceIdeal (hReferenceIdeal := Cert.ReferenceIdeal.Gen.facts) := fun m ρ _ => by
  refine θ_run_mono (Cert.ReferenceIdeal.Hand.run m ρ) ?_
  intro r hr
  refine ⟨fun c => ?_, sem_eq_zero_of_no_sems (by decide) _⟩
  obtain ⟨h0, h1, h2, h3, h4, h5, h6, h7, h8, h9, h10⟩ := Cert.ReferenceIdeal.Hand.ref_args (launchContents m c)
  exact ⟨(hr c _).trans h0, (hr c _).trans h1, (hr c _).trans h2, (hr c _).trans h3, (hr c _).trans h4, (hr c _).trans h5, (hr c _).trans h6,
    (hr c _).trans h7, (hr c _).trans h8, (hr c _).trans h9, (hr c _).trans h10⟩

/-- The kernel's results, as the host's last operations leave them. -/
theorem kernel_results (m) (ρ) : θ_run (Cert.KernelIdeal.defs (F := Ideal)) (onTc (τ := Cert.KernelIdeal.τ) (Cert.KernelIdeal.main (F := Ideal)))
    ⟨m, fun _ => 0, ρ⟩ (fun r => ∀ (c : Dev Cert.KernelIdeal.nD) b, b ∈ [Cert.KernelIdeal.main_v12, Cert.KernelIdeal.main_v13, Cert.KernelIdeal.main_v14] →
      r.2.mem ((c.tc : Thread Cert.KernelIdeal.nD Cert.KernelIdeal.τ).loc b) = Pipeline.afterTail₀ Cert.KernelIdeal.cfgs (Cert.KernelIdeal.Hand.dats m) 0
        (Cert.KernelIdeal.Gen.V0 m) [Cert.KernelIdeal.Gen.hostOps1] c b) := by
  refine θ_run_mono (Cert.KernelIdeal.Hand.run_quiet m ρ) ?_
  intro r hr c b hb
  simp only [List.mem_cons, List.mem_nil_iff, or_false] at hb
  rcases hb with rfl | rfl | rfl
  all_goals exact (hr.1 c).2 _ (Pipeline.mem_restRefs_of _ (by decide) (by decide))

/-- At exact arithmetic the kernel's three results are the reference's. -/
theorem same_results : algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m ρ m' ρ' hpre hag
  refine ⟨fun c => Pipeline.afterTail₀ Cert.KernelIdeal.cfgs (Cert.KernelIdeal.Hand.dats m) 0 (Cert.KernelIdeal.Gen.V0 m) [Cert.KernelIdeal.Gen.hostOps1] c Cert.KernelIdeal.main_v12,
    fun c => Pipeline.afterTail₀ Cert.KernelIdeal.cfgs (Cert.KernelIdeal.Hand.dats m) 0 (Cert.KernelIdeal.Gen.V0 m) [Cert.KernelIdeal.Gen.hostOps1] c Cert.KernelIdeal.main_v13,
    fun c => Pipeline.afterTail₀ Cert.KernelIdeal.cfgs (Cert.KernelIdeal.Hand.dats m) 0 (Cert.KernelIdeal.Gen.V0 m) [Cert.KernelIdeal.Gen.hostOps1] c Cert.KernelIdeal.main_v14, ?_, ?_⟩
  · refine θ_run_mono (θ_run_and (kernel_quiet (F := Ideal) m ρ) (kernel_results m ρ)) ?_
    intro r hr c
    exact ⟨hr.2 c _ (by simp), hr.2 c _ (by simp), hr.2 c _ (by simp), hr.1.1 c⟩
  · refine θ_run_mono (Cert.ReferenceIdeal.Hand.run m' ρ') ?_
    intro r hr c
    have hR := Cert.Hand.ranges _ _ _ _ _ _ _ _ _ _ _ (hpre c)
    obtain ⟨e0, e1, e2, e3, e4, e5, e6, e7, e8, e9, e10⟩ := hag c
    obtain ⟨h0, h1, h2, h3, h4, h5, h6, h7, h8, h9, h10⟩ := Cert.ReferenceIdeal.Hand.ref_args (launchContents m' c)
    refine ⟨(hr c _).trans ?_, (hr c _).trans ?_, (hr c _).trans ?_, (hr c _).trans h0, (hr c _).trans h1, (hr c _).trans h2, (hr c _).trans h3,
      (hr c _).trans h4, (hr c _).trans h5, (hr c _).trans h6, (hr c _).trans h7, (hr c _).trans h8, (hr c _).trans h9, (hr c _).trans h10⟩
    · rw [Cert.ReferenceIdeal.Hand.ref_v27]
      simp only [launchContents_devRef, e1, e8, e9, e10]
      exact Cert.KernelIdeal.Hand.out_12 m c
    · rw [Cert.ReferenceIdeal.Hand.ref_v29, Cert.ReferenceIdeal.Hand.ref_v27]
      simp only [launchContents_devRef, e1, e8, e9, e10]
      exact Cert.KernelIdeal.Hand.out_13 m c
    · rw [Cert.ReferenceIdeal.Hand.ref_v85, Cert.ReferenceIdeal.Hand.ref_v73, Cert.ReferenceIdeal.Hand.ref_v69, Cert.ReferenceIdeal.Hand.ref_v61,
        Cert.ReferenceIdeal.Hand.ref_v57]
      simp only [launchContents_devRef, e0, e2, e3, e4, e5, e6, e7]
      exact Cert.KernelIdeal.Hand.out_14 m c hR

/-- The certificate's claim. -/
theorem claim : Cert.Claim := ⟨Cert.Kernel.Gen.facts, Cert.KernelIdeal.Gen.facts, Cert.ReferenceIdeal.Gen.facts, Cert.Pre_drawn.Gen.facts,
  quiet_kernel, quiet_ideal, fun m ρ _ => kernel_quiet (F := Ideal) m ρ, quiet_ref, fun m ρ _ => quiet_ref m ρ trivial, trivial, same_results⟩

end Cert.Proof

end
